-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebook_inputs [hPre_codebook_inputs : Cert.Pre_codebook_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_codebook_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_codebook_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_codebook_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebook_inputs [hPre_codebook_inputs : Cert.Pre_codebook_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebook_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_codebook_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_codebook_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_codebook_inputs [hKernelIdeal : Cert.KernelIdeal.Facts] [hPre_codebook_inputs : Cert.Pre_codebook_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebook_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_codebook_inputs [hReferenceIdeal : Cert.ReferenceIdeal.Facts] [hPre_codebook_inputs : Cert.Pre_codebook_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebook_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_codebook_inputs [hKernelIdeal : Cert.KernelIdeal.Facts] [hReferenceIdeal : Cert.ReferenceIdeal.Facts] [hPre_codebook_inputs : Cert.Pre_codebook_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebook_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_codebook_inputs : Cert.Pre_codebook_inputs.Facts),
    quiescent_Kernel (hKernel := hKernel)
    ∧ quiescent_KernelIdeal (hKernelIdeal := hKernelIdeal)
    ∧ quiescent_KernelIdeal_pre_codebook_inputs (hKernelIdeal := hKernelIdeal) (hPre_codebook_inputs := hPre_codebook_inputs)
    ∧ quiescent_ReferenceIdeal (hReferenceIdeal := hReferenceIdeal)
    ∧ quiescent_ReferenceIdeal_pre_codebook_inputs (hReferenceIdeal := hReferenceIdeal) (hPre_codebook_inputs := hPre_codebook_inputs)
    ∧ preserves_Kernel_KernelIdeal
    ∧ algebraic_KernelIdeal_ReferenceIdeal_pre_codebook_inputs (hKernelIdeal := hKernelIdeal) (hReferenceIdeal := hReferenceIdeal) (hPre_codebook_inputs := hPre_codebook_inputs)
-- ==== Pre_codebook_inputs.lean ====
abbrev S3x512x512 : Shape := ⟨3, ![3, 512, 512]⟩
abbrev S1x512x512 : Shape := ⟨3, ![1, 512, 512]⟩
abbrev S27x3x1x1 : Shape := ⟨4, ![27, 3, 1, 1]⟩
abbrev S_ : Shape := ⟨0, ![]⟩

class Facts : Prop where
  bcast_S_S27x3x1x1 : S_.BroadcastsInDim S27x3x1x1 (![] : Fin 0 → Fin S27x3x1x1.rank)
  bcast_S_S3x512x512 : S_.BroadcastsInDim S3x512x512 (![] : Fin 0 → Fin S3x512x512.rank)
  bcast_S_S1x512x512 : S_.BroadcastsInDim S1x512x512 (![] : Fin 0 → Fin S1x512x512.rank)

variable [Facts]

def fn_where {F : FTy → Type} [FloatOps F] (arg0 : IVec S27x3x1x1 1) (arg1 : IVec S27x3x1x1 32) (arg2 : IVec S27x3x1x1 32) : IVec S27x3x1x1 32 :=
  let v0 : IVec S27x3x1x1 32 := select arg0 arg1 arg2
  v0

def fn_floor_divide {F : FTy → Type} [FloatOps F] (arg0 : IVec S27x3x1x1 32) (arg1 : IVec S_ 32) : IVec S27x3x1x1 32 :=
  let v0 : IVec S_ 32 := id arg1
  let v1 : IVec S27x3x1x1 32 := broadcastInDim S27x3x1x1 ![] bcast_S_S27x3x1x1 v0
  let v2 : IVec S27x3x1x1 32 := Host.divsi arg0 v1
  let v3 : IVec S27x3x1x1 32 := signi arg0
  let v4 : IVec S_ 32 := signi v0
  let v5 : IVec S27x3x1x1 32 := broadcastInDim S27x3x1x1 ![] bcast_S_S27x3x1x1 v4
  let v6 : IVec S27x3x1x1 1 := cmpi .ne v3 v5
  let v7 : IVec S27x3x1x1 32 := broadcastInDim S27x3x1x1 ![] bcast_S_S27x3x1x1 v0
  let v8 : IVec S27x3x1x1 32 := Host.remsi arg0 v7
  let c : IVec S_ 32 := constantI S_ 32 0#32
  let v9 : IVec S27x3x1x1 32 := broadcastInDim S27x3x1x1 ![] bcast_S_S27x3x1x1 c
  let v10 : IVec S27x3x1x1 1 := cmpi .ne v8 v9
  let v11 : IVec S27x3x1x1 1 := andi v6 v10
  let c_0 : IVec S_ 32 := constantI S_ 32 1#32
  let v12 : IVec S27x3x1x1 32 := broadcastInDim S27x3x1x1 ![] bcast_S_S27x3x1x1 c_0
  let v13 : IVec S27x3x1x1 32 := subi v2 v12
  let v14 : IVec S27x3x1x1 32 := fn_where (F := F) v11 v13 v2
  v14

def fn_where_0 {F : FTy → Type} [FloatOps F] (arg0 : IVec S27x3x1x1 1) (arg1 : FVec F S_ .f32) (arg2 : FVec F S_ .f32) : FVec F S27x3x1x1 .f32 :=
  let v0 : FVec F S27x3x1x1 .f32 := broadcastInDim S27x3x1x1 ![] bcast_S_S27x3x1x1 arg1
  let v1 : FVec F S27x3x1x1 .f32 := broadcastInDim S27x3x1x1 ![] bcast_S_S27x3x1x1 arg2
  let v2 : FVec F S27x3x1x1 .f32 := select arg0 v0 v1
  v2

def fn_where_1 {F : FTy → Type} [FloatOps F] (arg0 : IVec S27x3x1x1 1) (arg1 : FVec F S_ .f32) (arg2 : FVec F S27x3x1x1 .f32) : FVec F S27x3x1x1 .f32 :=
  let v0 : FVec F S27x3x1x1 .f32 := broadcastInDim S27x3x1x1 ![] bcast_S_S27x3x1x1 arg1
  let v1 : FVec F S27x3x1x1 .f32 := select arg0 v0 arg2
  v1

def fn_part1 {F : FTy → Type} [FloatOps F] (main_arg0 : FVec F S3x512x512 .f32) (main_arg1 : FVec F S1x512x512 .f32) (main_arg2 : FVec F S27x3x1x1 .f32) (main_v2 : IVec S27x3x1x1 32) (main_v6 : IVec S27x3x1x1 32) (main_v12 : IVec S27x3x1x1 32) (main_v14 : IVec S27x3x1x1 1) (main_v16 : IVec S27x3x1x1 1) : IVec S3x512x512 1 × IVec S1x512x512 1 × IVec S27x3x1x1 1 :=
  let main_v17 : IVec S27x3x1x1 32 := fn_where (F := F) main_v16 main_v6 main_v12
  let main_v18 : IVec S27x3x1x1 32 := fn_where (F := F) main_v14 main_v2 main_v17
  let main_c_6 : IVec S_ 32 := constantI S_ 32 0#32
  let main_v19 : IVec S27x3x1x1 32 := broadcastInDim S27x3x1x1 ![] bcast_S_S27x3x1x1 main_c_6
  let main_v20 : IVec S27x3x1x1 1 := cmpi .eq main_v18 main_v19
  let main_c_7 : IVec S_ 32 := constantI S_ 32 1#32
  let main_v21 : IVec S27x3x1x1 32 := broadcastInDim S27x3x1x1 ![] bcast_S_S27x3x1x1 main_c_7
  let main_v22 : IVec S27x3x1x1 1 := cmpi .eq main_v18 main_v21
  let main_cst : FVec F S_ .f32 := constant S_ .f32 0x42FE0000#32
  let main_cst_8 : FVec F S_ .f32 := constant S_ .f32 0x437F0000#32
  let main_v23 : FVec F S27x3x1x1 .f32 := fn_where_0 (F := F) main_v22 main_cst main_cst_8
  let main_cst_9 : FVec F S_ .f32 := constant S_ .f32 0x00000000#32
  let main_v24 : FVec F S27x3x1x1 .f32 := fn_where_1 (F := F) main_v20 main_cst_9 main_v23
  let main_v25 : FVec F S3x512x512 .f32 := Host.absf main_arg0
  let main_cst_10 : FVec F S_ .f32 := constant S_ .f32 0x7F800000#32
  let main_v26 : FVec F S3x512x512 .f32 := broadcastInDim S3x512x512 ![] bcast_S_S3x512x512 main_cst_10
  let main_v27 : IVec S3x512x512 1 := cmpf .olt main_v25 main_v26
  let main_cst_11 : FVec F S_ .f32 := constant S_ .f32 0x3F800000#32
  let main_v28 : FVec F S1x512x512 .f32 := broadcastInDim S1x512x512 ![] bcast_S_S1x512x512 main_cst_11
  let main_v29 : IVec S1x512x512 1 := cmpf .oeq main_arg1 main_v28
  let main_v30 : FVec F S27x3x1x1 .f32 := id main_v24
  let main_v31 : IVec S27x3x1x1 1 := cmpf .oeq main_arg2 main_v30
  (main_v27, main_v29, main_v31)

def fn {F : FTy → Type} [FloatOps F] (main_arg0 : FVec F S3x512x512 .f32) (main_arg1 : FVec F S1x512x512 .f32) (main_arg2 : FVec F S27x3x1x1 .f32) : IVec S3x512x512 1 × IVec S1x512x512 1 × IVec S27x3x1x1 1 :=
  let main_v0 : IVec S27x3x1x1 32 := iotaInDim S27x3x1x1 32 0
  let main_v1 : IVec S27x3x1x1 32 := iotaInDim S27x3x1x1 32 1
  let main_c : IVec S_ 32 := constantI S_ 32 9#32
  let main_v2 : IVec S27x3x1x1 32 := fn_floor_divide (F := F) main_v0 main_c
  let main_c_0 : IVec S_ 32 := constantI S_ 32 3#32
  let main_v3 : IVec S27x3x1x1 32 := fn_floor_divide (F := F) main_v0 main_c_0
  let main_c_1 : IVec S_ 32 := constantI S_ 32 3#32
  let main_v4 : IVec S27x3x1x1 32 := broadcastInDim S27x3x1x1 ![] bcast_S_S27x3x1x1 main_c_1
  let main_v5 : IVec S27x3x1x1 32 := muli main_v4 main_v2
  let main_v6 : IVec S27x3x1x1 32 := subi main_v3 main_v5
  let main_c_2 : IVec S_ 32 := constantI S_ 32 9#32
  let main_v7 : IVec S27x3x1x1 32 := broadcastInDim S27x3x1x1 ![] bcast_S_S27x3x1x1 main_c_2
  let main_v8 : IVec S27x3x1x1 32 := muli main_v7 main_v2
  let main_v9 : IVec S27x3x1x1 32 := subi main_v0 main_v8
  let main_c_3 : IVec S_ 32 := constantI S_ 32 3#32
  let main_v10 : IVec S27x3x1x1 32 := broadcastInDim S27x3x1x1 ![] bcast_S_S27x3x1x1 main_c_3
  let main_v11 : IVec S27x3x1x1 32 := muli main_v10 main_v6
  let main_v12 : IVec S27x3x1x1 32 := subi main_v9 main_v11
  let main_c_4 : IVec S_ 32 := constantI S_ 32 0#32
  let main_v13 : IVec S27x3x1x1 32 := broadcastInDim S27x3x1x1 ![] bcast_S_S27x3x1x1 main_c_4
  let main_v14 : IVec S27x3x1x1 1 := cmpi .eq main_v1 main_v13
  let main_c_5 : IVec S_ 32 := constantI S_ 32 1#32
  let main_v15 : IVec S27x3x1x1 32 := broadcastInDim S27x3x1x1 ![] bcast_S_S27x3x1x1 main_c_5
  let main_v16 : IVec S27x3x1x1 1 := cmpi .eq main_v1 main_v15
  fn_part1 (F := F) main_arg0 main_arg1 main_arg2 main_v2 main_v6 main_v12 main_v14 main_v16
-- ==== Kernel.lean ====
abbrev S3x512x512 : Shape := ⟨3, ![3, 512, 512]⟩
abbrev S1x512x512 : Shape := ⟨3, ![1, 512, 512]⟩
abbrev S27x3x1x1 : Shape := ⟨4, ![27, 3, 1, 1]⟩
abbrev S786432 : Shape := ⟨1, ![786432]⟩
abbrev S32x32 : Shape := ⟨2, ![32, 32]⟩
abbrev S8192 : Shape := ⟨1, ![8192]⟩
abbrev S512 : Shape := ⟨1, ![512]⟩
abbrev S32 : Shape := ⟨1, ![32]⟩
abbrev S_ : Shape := ⟨0, ![]⟩
abbrev S16 : Shape := ⟨1, ![16]⟩
abbrev S1x32 : Shape := ⟨2, ![1, 32]⟩
abbrev S32x2 : Shape := ⟨2, ![32, 2]⟩
abbrev S32x1 : Shape := ⟨2, ![32, 1]⟩
abbrev S1x1x32 : Shape := ⟨3, ![1, 1, 32]⟩
abbrev S1 : Shape := ⟨1, ![1]⟩
abbrev S1x1x1 : Shape := ⟨3, ![1, 1, 1]⟩
abbrev S27x1 : Shape := ⟨2, ![27, 1]⟩
abbrev S27 : Shape := ⟨1, ![27]⟩

abbrev nBuf : Table → Nat
  | .hbm => 12
  | .local .tc .vmem => 3
  | .local .scVector .vmem => 5
  | _ => 0

abbrev bufTy : (tb : Table) → Fin (nBuf tb) → BufTy
  | .hbm, ⟨0, _⟩ => ⟨S3x512x512, .f32⟩
  | .hbm, ⟨1, _⟩ => ⟨S1x512x512, .f32⟩
  | .hbm, ⟨2, _⟩ => ⟨S27x3x1x1, .f32⟩
  | .hbm, ⟨3, _⟩ => ⟨S786432, .f32⟩
  | .hbm, ⟨4, _⟩ => ⟨S32x32, .f32⟩
  | .hbm, ⟨5, _⟩ => ⟨S32x32, .f32⟩
  | .hbm, ⟨6, _⟩ => ⟨S32x2, .f32⟩
  | .hbm, ⟨7, _⟩ => ⟨S27x1, .f32⟩
  | .hbm, ⟨8, _⟩ => ⟨S27, .f32⟩
  | .hbm, ⟨9, _⟩ => ⟨S27, .i32⟩
  | .hbm, ⟨10, _⟩ => ⟨S27x1, .f32⟩
  | .hbm, ⟨11, _⟩ => ⟨S27, .f32⟩
  | .local .tc .vmem, ⟨0, _⟩ => ⟨S32x32, .f32⟩
  | .local .tc .vmem, ⟨1, _⟩ => ⟨S32x32, .f32⟩
  | .local .tc .vmem, ⟨2, _⟩ => ⟨S32x2, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S512, .f32⟩
  | .local .scVector .vmem, ⟨4, _⟩ => ⟨S32, .f32⟩
  | _, _ => ⟨S3x512x512, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
def k0_off2 (i : grid0.Coords) (c262144_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v3 : BitVec 32 := Scalar.addi c262144_i32 v2
  ![v3.toNat]
@[reducible] def k0_t1_loop : Scf.Loop 32 :=
  let c0_i32_1 : BitVec 32 := 0#32
  let c512_i32 : BitVec 32 := 512#32
  let v42 : BitVec 32 := Scalar.addi c0_i32_1 c512_i32
  let c1_i32 : BitVec 32 := 1#32
  ⟨c0_i32_1, v42, c1_i32⟩
def k0_off3 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c16_i32 : BitVec 32 := 16#32
  let v107 : BitVec 32 := Scalar.muli arg9 c16_i32
  let v108 : Index := Scalar.indexCast v107
  ![v108.toNat]

def k0_chk1 (v143 : IVec S16 32) : Prop :=
  (∀ a x, ((![v143] : Fin 1 → IVec S16 32) a x).toNat < S512.size a)
theorem k0_idx1_inb : ∀ (v143 : IVec S16 32) (k0_hw1 : k0_chk1 v143), ∀ a x, ((![v143] : Fin 1 → IVec S16 32) a x).toNat < S512.size a := fun v143 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_37_r3 : BitVec 32 := 0#32
  ![v1.toNat, 0]
abbrev grid1 : Pipeline.Grid := .none

abbrev stage1_0 : Fin 1 → Memref sig .tc .vmem S32x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x512x512 : Shape := ⟨3, ![3, 512, 512]⟩
abbrev S1x512x512 : Shape := ⟨3, ![1, 512, 512]⟩
abbrev S27x3x1x1 : Shape := ⟨4, ![27, 3, 1, 1]⟩
abbrev S1x3x512x512 : Shape := ⟨4, ![1, 3, 512, 512]⟩
abbrev S27x3x512x512 : Shape := ⟨4, ![27, 3, 512, 512]⟩
abbrev S_ : Shape := ⟨0, ![]⟩
abbrev S27x512x512 : Shape := ⟨3, ![27, 512, 512]⟩
abbrev S512x512 : Shape := ⟨2, ![512, 512]⟩
abbrev S27 : Shape := ⟨1, ![27]⟩
abbrev S27x1x1 : Shape := ⟨3, ![27, 1, 1]⟩
abbrev S27x1 : Shape := ⟨2, ![27, 1]⟩

abbrev nBuf : Space → Nat
  | .hbm => 50
  | .vmem => 0
  | .smem => 0
  | _ => 0

abbrev bufTy : (tb : Table) → Fin (tcTables nBuf tb) → BufTy
  | .hbm, ⟨0, _⟩ => ⟨S3x512x512, .f32⟩
  | .hbm, ⟨1, _⟩ => ⟨S1x512x512, .f32⟩
  | .hbm, ⟨2, _⟩ => ⟨S27x3x1x1, .f32⟩
  | .hbm, ⟨3, _⟩ => ⟨S1x3x512x512, .f32⟩
  | .hbm, ⟨4, _⟩ => ⟨S27x3x512x512, .f32⟩
  | .hbm, ⟨5, _⟩ => ⟨S27x3x512x512, .f32⟩
  | .hbm, ⟨6, _⟩ => ⟨S27x3x512x512, .f32⟩
  | .hbm, ⟨7, _⟩ => ⟨S27x3x512x512, .f32⟩
  | .hbm, ⟨8, _⟩ => ⟨S_, .f32⟩
  | .hbm, ⟨9, _⟩ => ⟨S27x512x512, .f32⟩
  | .hbm, ⟨10, _⟩ => ⟨S27x512x512, .i32⟩
  | .hbm, ⟨11, _⟩ => ⟨S_, .f32⟩
  | .hbm, ⟨12, _⟩ => ⟨S_, .i32⟩
  | .hbm, ⟨13, _⟩ => ⟨S512x512, .f32⟩
  | .hbm, ⟨14, _⟩ => ⟨S512x512, .i32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S27, .f32⟩
  | .hbm, ⟨25, _⟩ => ⟨S27x1x1, .f32⟩
  | .hbm, ⟨26, _⟩ => ⟨S1x512x512, .f32⟩
  | .hbm, ⟨27, _⟩ => ⟨S27x512x512, .f32⟩
  | .hbm, ⟨28, _⟩ => ⟨S27x512x512, .f32⟩
  | .hbm, ⟨29, _⟩ => ⟨S27x512x512, .i1⟩
  | .hbm, ⟨30, _⟩ => ⟨S27x512x512, .f32⟩
  | .hbm, ⟨31, _⟩ => ⟨S_, .f32⟩
  | .hbm, ⟨32, _⟩ => ⟨S27, .f32⟩
  | .hbm, ⟨33, _⟩ => ⟨S_, .f32⟩
  | .hbm, ⟨34, _⟩ => ⟨S_, .f32⟩
  | .hbm, ⟨35, _⟩ => ⟨S27, .f32⟩
  | .hbm, ⟨36, _⟩ => ⟨S27, .f32⟩
  | .hbm, ⟨37, _⟩ => ⟨S27, .f32⟩
  | .hbm, ⟨38, _⟩ => ⟨S27, .i32⟩
  | .hbm, ⟨39, _⟩ => ⟨S27, .f32⟩
  | .hbm, ⟨40, _⟩ => ⟨S27, .i32⟩
  | .hbm, ⟨41, _⟩ => ⟨S_, .i32⟩
  | .hbm, ⟨42, _⟩ => ⟨S27, .i32⟩
  | .hbm, ⟨43, _⟩ => ⟨S27, .i1⟩
  | .hbm, ⟨44, _⟩ => ⟨S_, .i32⟩
  | .hbm, ⟨45, _⟩ => ⟨S27, .i32⟩
  | .hbm, ⟨46, _⟩ => ⟨S27, .i32⟩
  | .hbm, ⟨47, _⟩ => ⟨S27, .i32⟩
  | .hbm, ⟨48, _⟩ => ⟨S27x1, .i32⟩
  | .hbm, ⟨49, _⟩ => ⟨S27, .f32⟩
  | _, _ => ⟨S3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_v1_0 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.Hist.lean ====
/-
  What the tiles compute, as functions of the image the kernel is handed. A tile counts, for the 8192 pixels of its slab,
  how many fall in each of the 27 colour bins: sixteen lanes at a time, lane `l` counting into words `32 l … 32 l + 31`
  of a 512-word histogram, the sixteen rows of 32 words added up at the end. Nothing here depends on how floats are
  interpreted: the functions are stated over any interpretation.
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof.Hist

open Cert.KernelIdeal Cert.KernelIdeal.Gen
open Idealize.ShloMosaic

variable {F : FTy → Type} [FloatOps F]

/-! ## Positions of the flat shapes -/

/-- Element `n` of the flat image (the remainder when `n` is outside it). -/
def atImg (n : ℕ) : S786432.Idx := fun | 0 => ⟨n % 786432, Nat.mod_lt _ (by decide)⟩
/-- Element `n` of a slab. -/
def atSlab (n : ℕ) : S8192.Idx := fun | 0 => ⟨n % 8192, Nat.mod_lt _ (by decide)⟩
/-- Word `n` of a histogram. -/
def atHist (n : ℕ) : S512.Idx := fun | 0 => ⟨n % 512, Nat.mod_lt _ (by decide)⟩
/-- Bin `n` of a row of counts. -/
def atBin (n : ℕ) : S32.Idx := fun | 0 => ⟨n % 32, Nat.mod_lt _ (by decide)⟩

/-! ## A pixel's bin -/

/-- How many of the two thresholds a channel's value passes: which of the three levels it is nearest to. -/
def lev (v : F .f32) : ℕ :=
  (FloatOps.cmpf .ogt v (Scalar.ofBits .f32 0x427E0000#32)).toNat + (FloatOps.cmpf .ogt v (Scalar.ofBits .f32 0x433F0000#32)).toNat

/-- The bin of a pixel from its three channels: the three levels read as one number in base three. -/
def bin (r g b : F .f32) : ℕ := 9 * lev r + 3 * lev g + lev b

/-- A level is at most two. -/
theorem lev_le (v : F .f32) : lev v ≤ 2 := by
  have h1 := (FloatOps.cmpf .ogt v (Scalar.ofBits (F := F) .f32 0x427E0000#32)).isLt
  have h2 := (FloatOps.cmpf .ogt v (Scalar.ofBits (F := F) .f32 0x433F0000#32)).isLt
  unfold lev; omega

/-- A bin is below 27. -/
theorem bin_lt (r g b : F .f32) : bin r g b < 27 := by
  have := lev_le r; have := lev_le g; have := lev_le b
  unfold bin; omega

/-- A selection of one or zero by a bit is the bit. -/
theorem sel_toNat (c : BitVec 1) : (Scalar.select c (1#32) (0#32)).toNat = c.toNat := by
  revert c; decide

/-- The word lane `x` counts into: its row's start plus the bin of its pixel. -/
theorem pay3_toNat (r g b : Vec F S16 .f32) (x : S16.Idx) :
    (k0_pay3 r g b x).toNat = 32 * (x 0).val + bin (r x) (g x) (b x) := by
  have hx : (x 0).val < 16 := (x 0).isLt
  have e : k0_pay3 r g b x
      = (BitVec.ofNat 32 (0 * 16 + (x 0).val) * 32#32)
        + (((Scalar.select (FloatOps.cmpf .ogt (r x) (Scalar.ofBits .f32 0x427E0000#32)) (1#32) (0#32)
              + Scalar.select (FloatOps.cmpf .ogt (r x) (Scalar.ofBits .f32 0x433F0000#32)) (1#32) (0#32)) * 9#32
            + (Scalar.select (FloatOps.cmpf .ogt (g x) (Scalar.ofBits .f32 0x427E0000#32)) (1#32) (0#32)
              + Scalar.select (FloatOps.cmpf .ogt (g x) (Scalar.ofBits .f32 0x433F0000#32)) (1#32) (0#32)) * 3#32)
          + (Scalar.select (FloatOps.cmpf .ogt (b x) (Scalar.ofBits .f32 0x427E0000#32)) (1#32) (0#32)
              + Scalar.select (FloatOps.cmpf .ogt (b x) (Scalar.ofBits .f32 0x433F0000#32)) (1#32) (0#32))) := rfl
  rw [e]
  have h := lev_le (r x); have h' := lev_le (g x); have h'' := lev_le (b x)
  unfold bin
  unfold lev at *
  simp only [BitVec.toNat_add, BitVec.toNat_mul, sel_toNat, BitVec.toNat_ofNat]
  omega

/-- Every word counted into is one of the histogram's 512. -/
theorem chk_bins (r g b : Vec F S16 .f32) : k0_chk1 (k0_pay3 r g b) := by
  intro a x
  obtain rfl : a = 0 := Subsingleton.elim _ _
  show (k0_pay3 r g b x).toNat < 512
  rw [pay3_toNat]
  have hx : (x 0).val < 16 := (x 0).isLt
  have := bin_lt (r x) (g x) (b x)
  omega

/-! ## A tile's count -/

/-- The slab of channel `c` that tile `w` reads: 8192 consecutive elements of the flat image. -/
def slab (x : Vec F S786432 .f32) (c w : ℕ) : Vec F S8192 .f32 := fun j => x (atImg (262144 * c + 8192 * w + (j 0).val))

/-- Sixteen consecutive elements of a slab, from `16 n`. -/
def lanes (y : Vec F S8192 .f32) (n : ℕ) : Vec F S16 .f32 := fun j => y (atSlab (16 * n + (j 0).val))

/-- The histogram after sixteen more pixels are counted. -/
def scat (f : Vec F S512 .f32) (r g b : Vec F S16 .f32) : Vec F S512 .f32 :=
  storeIdx f ![k0_pay3 r g b] k0_pay2 (fun _ => 1#1) true (k0_idx1_inb _ (chk_bins r g b))

/-- The histogram after `n` trips over the slabs of the three channels. -/
def histAt (r g b : Vec F S8192 .f32) : ℕ → Vec F S512 .f32
  | 0 => fun _ => Scalar.ofBits .f32 0x00000000#32
  | n + 1 => scat (histAt r g b n) (lanes r n) (lanes g n) (lanes b n)

/-- The sixteen rows of a histogram added up, first row first. -/
def rowOf (h : Vec F S512 .f32) : Vec F S32 .f32 := fun j =>
  (List.range 15).foldl (fun a l => FloatOps.addf a (h (atHist (32 * (l + 1) + (j 0).val)))) (h (atHist (j 0).val))

/-- The counts tile `w` writes: its histogram's rows added up. -/
def tileRow (x : Vec F S786432 .f32) (w : ℕ) : Vec F S32 .f32 :=
  rowOf (histAt (slab x 0 w) (slab x 1 w) (slab x 2 w) 512)

/-- All the tiles' counts, one row per tile. -/
def partial32 (x : Vec F S786432 .f32) : Vec F S32x32 .f32 := fun j => tileRow x (j 0).val (atBin (j 1).val)

end Cert.Proof.Hist

end
-- ==== Proof.Setup.lean ====
/-
  The program as the launch theorem sees it: the labels, the launch's configuration, the resource algebra (the handshakes'
  rounds beside the TensorCore region's rounds and the transfers' counters), the arrays as locations of a device.
-/
module

public import proofs.«01_k».proof.Defs
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Exec
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program's functions, its pipeline's among them. -/
abbrev ΛP : Labels := Pipeline.Sig Λ₀ (Fin 1) fun p => (pcfgs (F := F) p).Adm
/-- The program's SparseCore launch. -/
abbrev K : SparseCore.Cfg τ sig (ΛP (F := F)) 1 := sc (F := F)
/-- The program's functions, its pipeline's among them. -/
abbrev D [FloatOps F] : Defs nD τ sig (Elt F) (ΛP (F := F)) := Pipeline.defs pcfgs defs₀
/-- No variant: nothing in the program loops without a bound. -/
abbrev 𝒱₀ : Variants := Variants.none
/-- The same for the program with its pipeline. -/
abbrev 𝒱 : Variants := 𝒱₀.lift
/-- The one variant value. -/
abbrev v₀ : 𝒱.V := Sum.inl none

/-- The launch's semaphores are four distinct unscoped ones, and no buffer is a task-shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The region's rounds. -/
abbrev UPipe : Type := URounds (GSem nD τ sig) Unit
/-- The ghost state: the handshakes' rounds, the region's rounds, the counters. -/
abbrev UU : Type := UH × (UPipe × Counters)

local notation "𝕄" => MT nD τ sig (HIx 1) (Elt F) ℕ UU ℕ

/-- The handshakes' rounds, the left factor. -/
abbrev EH : Emb UH (MT nD τ sig (HIx 1) (Elt F) ℕ UU ℕ) := embL
/-- The TensorCore region's rounds, the middle factor. -/
def EP : Emb UPipe (MT nD τ sig (HIx 1) (Elt F) ℕ UU ℕ) := (Emb.inl : Emb UPipe (UPipe × Counters)).trans embR

/-- The region's rounds are part of the user's ghost state. -/
instance EP_landsIn : (EP : Emb UPipe 𝕄).LandsIn (upEmb : UEmb _ 𝕄) := by unfold EP; infer_instance

/-! ## The launch memory and the arrays -/

/-- The flattened image, as a location of device `d`. -/
abbrev xLoc (d : Dev nD) : Loc nD τ sig := (SparseCore.T d).loc main_v0
/-- The tiles' counts, as a location of device `d`. -/
abbrev hLoc (d : Dev nD) : Loc nD τ sig := (SparseCore.T d).loc main_v1

end Cert.Proof.SC

end
-- ==== Proof.Tile.lean ====
/-
  One tile's task. It copies its three slabs of the image in, clears its histogram, counts its 8192 pixels sixteen at a
  time, adds the histogram's sixteen rows up and copies the result to its row of the shared counts.
-/
module

public import proofs.«01_k».proof.Proof.Setup

@[expose] public section

set_option maxRecDepth 16384

noncomputable section

namespace Cert.Proof.SC

open Cert.KernelIdeal Cert.KernelIdeal.Gen
open Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S786432 EltTy.f32)
local notation "hW" => (Memref.whole Cert.KernelIdeal.main_v1_scv : Memref Cert.KernelIdeal.sig Kind.scVector Space.hbm Cert.KernelIdeal.S32x32 EltTy.f32)
local notation "s0W" => (Memref.whole Cert.KernelIdeal.cc0_scratch0 : Memref Cert.KernelIdeal.sig Kind.scVector Space.vmem Cert.KernelIdeal.S8192 EltTy.f32)
local notation "s1W" => (Memref.whole Cert.KernelIdeal.cc0_scratch1 : Memref Cert.KernelIdeal.sig Kind.scVector Space.vmem Cert.KernelIdeal.S8192 EltTy.f32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S512 EltTy.f32)
local notation "s4W" => (Memref.whole Cert.KernelIdeal.cc0_scratch4 : Memref Cert.KernelIdeal.sig Kind.scVector Space.vmem Cert.KernelIdeal.S32 EltTy.f32)

variable [FloatOps F]

section Tile

variable (d : Dev nD) (L : grid0.Coords)

/-- The tile's core. -/
abbrev cV : Fin τ.nSC := (L 0).castLE hcore0
/-- The tile's subcore in its core. -/
abbrev jV : Fin τ.nSub := (L 1).castLE hsub0
/-- The subcore's thread. -/
abbrev thr : Thread nD τ := V d (cV L) (jV L)

/-- The subcore's number among all the tiles. -/
abbrev wid : ℕ := 2 * (L 1).val + (L 0).val

/-- The semaphore of the copy of the first channel. -/
abbrev c0 : GSem nD τ sig := (thr d L, .dma cc0_scoped0.sem)
/-- The semaphore of the copy of the second channel. -/
abbrev c1 : GSem nD τ sig := (thr d L, .dma cc0_scoped1.sem)
/-- The semaphore of the copy of the third channel. -/
abbrev c2 : GSem nD τ sig := (thr d L, .dma cc0_scoped2.sem)
/-- The semaphore of the copy of the counts. -/
abbrev c3 : GSem nD τ sig := (thr d L, .dma cc0_scoped3.sem)

/-- The tile's row of the shared counts, as the kernel slices it. -/
abbrev rowK : Rect S32x32 := Rect.unit (s := S32x32) (k0_off4 L) S1x32.size (k0_off4_inb L)
/-- The tile's row of the shared counts, as a row of 32. -/
abbrev hRow : Memref sig .scVector .hbm S32 .f32 := ((hW).slice (rowK L) (fun _ => rfl)).squeeze S32 squeezes_S1x32_S32

omit [FloatOps F] in
/-- The four transfer semaphores are among the subcore's own. -/
theorem ownSems0_V :
    (ownSems0 (thr d L) : sProp 𝕄)
      = iprop(semVal (c0 d L) 0 ∗ semVal (c1 d L) 0 ∗ semVal (c2 d L) 0 ∗ semVal (c3 d L) 0
          ∗ bigSep (((((ownCells (thr d L)).erase (c0 d L)).erase (c1 d L)).erase (c2 d L)).erase (c3 d L)) fun g => semVal g 0) := by
  have h01 : c1 d L ≠ c0 d L := by simp [c0, c1]; decide
  have h02 : c2 d L ≠ c0 d L := by simp [c0, c2]; decide
  have h03 : c3 d L ≠ c0 d L := by simp [c0, c3]; decide
  have h12 : c2 d L ≠ c1 d L := by simp [c1, c2]; decide
  have h13 : c3 d L ≠ c1 d L := by simp [c1, c3]; decide
  have h23 : c3 d L ≠ c2 d L := by simp [c2, c3]; decide
  unfold SparseCore.Cfg.ownSems0
  rw [SparseCore.bigSep_erase' ((mem_ownCells (g := c0 d L)).mpr ⟨rfl, by
      show (SemLoc.dma cc0_scoped0.sem : SemLoc sig).isScoped .scVector = true; decide⟩),
    SparseCore.bigSep_erase' (Finset.mem_erase.mpr ⟨h01, (mem_ownCells (g := c1 d L)).mpr ⟨rfl, by
      show (SemLoc.dma cc0_scoped1.sem : SemLoc sig).isScoped .scVector = true; decide⟩⟩),
    SparseCore.bigSep_erase' (Finset.mem_erase.mpr ⟨h12, Finset.mem_erase.mpr ⟨h02, (mem_ownCells (g := c2 d L)).mpr ⟨rfl, by
      show (SemLoc.dma cc0_scoped2.sem : SemLoc sig).isScoped .scVector = true; decide⟩⟩⟩),
    SparseCore.bigSep_erase' (Finset.mem_erase.mpr ⟨h23, Finset.mem_erase.mpr ⟨h13, Finset.mem_erase.mpr ⟨h03,
      (mem_ownCells (g := c3 d L)).mpr ⟨rfl, by
      show (SemLoc.dma cc0_scoped3.sem : SemLoc sig).isScoped .scVector = true; decide⟩⟩⟩⟩)]

/-- The subcore's buffer that scratch `r` names. -/
abbrev sRef (r : Ref sig .scVector) : DevRef τ sig := (Proc.scVector (cV L) (jV L)).devRef r

omit [FloatOps F] in
/-- A scratch buffer is among the subcore's own. -/
theorem sRef_mem (r : Ref sig .scVector) (h : (sRef L r).owner = .proc (Proc.scVector (cV L) (jV L)) := by rfl) :
    sRef L r ∈ ownRefs (τ := τ) (.scVector (cV L) (jV L)) :=
  SparseCore.Cfg.mem_ownRefs_of_owner (p := Proc.scVector (cV L) (jV L)) (b := sRef L r) h

omit [FloatOps F] in
/-- Different scratches are different buffers. -/
theorem sRef_ne {r r' : Ref sig .scVector} (h : r ≠ r') : sRef L r ≠ sRef L r' := fun e => h (Proc.devRef_injective _ e)

omit [FloatOps F] in
/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (sRef L cc0_scratch0)).erase (sRef L cc0_scratch1)).erase
              (sRef L cc0_scratch2)).erase (sRef L cc0_scratch3)).erase (sRef L cc0_scratch4))
              fun b => iprop(∃ f, ((d, b) : Loc nD τ sig) ↦{fullShare} f)) := by
  unfold SparseCore.Cfg.ownBufs
  refine (SparseCore.bigSep_erase' (sRef_mem L cc0_scratch0)).trans ?_
  rw [SparseCore.bigSep_erase' (Finset.mem_erase.mpr ⟨sRef_ne L (r := cc0_scratch1) (r' := cc0_scratch0) (by decide), sRef_mem L cc0_scratch1⟩),
    SparseCore.bigSep_erase' (Finset.mem_erase.mpr ⟨sRef_ne L (r := cc0_scratch2) (r' := cc0_scratch1) (by decide),
      Finset.mem_erase.mpr ⟨sRef_ne L (r := cc0_scratch2) (r' := cc0_scratch0) (by decide), sRef_mem L cc0_scratch2⟩⟩),
    SparseCore.bigSep_erase' (Finset.mem_erase.mpr ⟨sRef_ne L (r := cc0_scratch3) (r' := cc0_scratch2) (by decide),
      Finset.mem_erase.mpr ⟨sRef_ne L (r := cc0_scratch3) (r' := cc0_scratch1) (by decide),
      Finset.mem_erase.mpr ⟨sRef_ne L (r := cc0_scratch3) (r' := cc0_scratch0) (by decide), sRef_mem L cc0_scratch3⟩⟩⟩),
    SparseCore.bigSep_erase' (Finset.mem_erase.mpr ⟨sRef_ne L (r := cc0_scratch4) (r' := cc0_scratch3) (by decide),
      Finset.mem_erase.mpr ⟨sRef_ne L (r := cc0_scratch4) (r' := cc0_scratch2) (by decide),
      Finset.mem_erase.mpr ⟨sRef_ne L (r := cc0_scratch4) (r' := cc0_scratch1) (by decide),
      Finset.mem_erase.mpr ⟨sRef_ne L (r := cc0_scratch4) (r' := cc0_scratch0) (by decide), sRef_mem L cc0_scratch4⟩⟩⟩⟩)]

/-- The image whole at a share. -/
abbrev xPts (q : PosShare TreeShare) (x : Buf (Elt F) (xLoc d)) : sProp 𝕄 := xLoc d ↦{q} x
/-- The tile's row of the counts. -/
abbrev rowPts (f : Buf (Elt F) (hLoc d)) : sProp 𝕄 := hLoc d ↦[(hRow L).view.set]{fullShare} f

/-- A slab's worth of the image from position `n`, read through the kernel's slice. -/
theorem read_slab (x : Buf (Elt F) (xLoc d)) (off : Fin 1 → ℕ) (inb : ∀ a, off a + S8192.size a ≤ S786432.size a) (c w : ℕ)
    (h : off 0 = 262144 * c + 8192 * w) :
    ((xW).slice (Rect.unit (s := S786432) off S8192.size inb) (fun _ => rfl)).view.read (Elt F) x = slab x c w := by
  funext j
  refine congrArg x ?_
  funext a
  obtain rfl : a = (0 : Fin 1) := Subsingleton.elim (α := Fin 1) _ _
  apply Fin.ext
  have hj : (j 0).val < 8192 := (j 0).isLt
  have hb : off 0 + 8192 ≤ 786432 := inb 0
  show off 0 + 1 * (j 0).val = (262144 * c + 8192 * w + (j 0).val) % 786432
  rw [h] at hb ⊢
  rw [Nat.mod_eq_of_lt (by omega)]
  omega

/-- Where the slab of the first channel begins. -/
theorem off1_at : k0_off1 L 0 = 262144 * 0 + 8192 * wid L := by
  rw [k0_off1_eq]; show 16384 * (L 1).val + 8192 * (L 0).val = _; unfold wid; omega
/-- Where the slabs of the second and the third channel begin. -/
theorem off2_at (r : Fin 2) : k0_off2 L (BitVec.ofNat 32 (262144 + 262144 * r.val)) 0 = 262144 * (r.val + 1) + 8192 * wid L := by
  rw [k0_off2_eq L r, Matrix.cons_val_zero]
  unfold wid
  ring
/-- Where the slab of the second channel begins. -/
theorem off2_at1 : k0_off2 L 262144#32 0 = 262144 * 1 + 8192 * wid L := off2_at L ⟨0, by decide⟩
/-- Where the slab of the third channel begins. -/
theorem off2_at2 : k0_off2 L 524288#32 0 = 262144 * 2 + 8192 * wid L := off2_at L ⟨1, by decide⟩

/-- A row of the partial counts, as the program names it. -/
theorem rowPts_eq (f : Buf (Elt F) (hLoc d)) :
    (rowPts d L f : sProp 𝕄) = ((hRow L).view.loc (thr d L) ↦[(hRow L).view.set]{fullShare} f) := rfl

/-- A whole buffer overwritten holds what was written. -/
theorem land {r : Ref sig .scVector} (g w v : r.ty.Contents (Elt F)) (h : w = v) :
    ((Memref.whole r).view.loc (thr d L) ↦{fullShare} (Memref.whole r).view.write (Elt F) g w Finset.univ : sProp 𝕄) ⊢ (Memref.whole r).view.loc (thr d L) ↦{fullShare} v :=
  Entails.of_eq (by rw [h]; simp only [Memref.view_whole, View.write_whole_univ])

/-- Thirty-two stores of zeros that cover the histogram leave it zero. -/
theorem cleared (g : Buf (Elt F) ((thr d L).loc cc0_scratch3)) (P : List (View.Piece (Elt F) S512 .f32))
    (hz : ∀ p ∈ P, ∀ y, p.2 y = Scalar.ofBits .f32 0x00000000#32) (hc : View.Piece.tiled P S16.size = true)
    (r g' b : Vec F S8192 .f32) :
    ((s3W).view.loc (thr d L) ↦{fullShare} (s3W).view.writes (Elt F) g P : sProp 𝕄)
      ⊢ (s3W).view.loc (thr d L) ↦{fullShare} (histAt r g' b 0 : Vec F S512 .f32) :=
  Entails.of_eq (congrArg _ (funext fun y => by
    rw [← View.read_whole (Val := Elt F) cc0_scratch3 ((s3W).view.writes (Elt F) g P)]
    exact View.read_writes_apply_of_pieces (v := (s3W).view) (f := g) (fun _ => Scalar.ofBits .f32 0x00000000#32) P hz y (View.cover_of_tiled P S16.size hc y)))

/-- The histogram whole, as the indexed store addresses it. -/
theorem access_set : ((s3W).access (.whole S512)).set = Finset.univ := by
  rw [Finset.eq_univ_iff_forall]
  intro j
  exact Finset.mem_map.mpr ⟨j, Finset.mem_univ _, by funext a; apply Fin.ext; show 0 + 1 * (j a).val = (j a).val; omega⟩
/-- Holding the histogram is holding what the indexed store addresses. -/
theorem pts_access (f : Buf (Elt F) ((thr d L).loc cc0_scratch3)) :
    ((s3W).view.loc (thr d L) ↦{fullShare} f : sProp 𝕄)
      = ((s3W).access (.whole S512)).loc (thr d L) ↦[((s3W).access (.whole S512)).set]{fullShare} f := by
  rw [access_set]
/-- Reading the histogram through that access gives it whole. -/
theorem read_access (f : Vec F S512 .f32) : ((s3W).access (.whole S512)).read (Elt F) f = f := by
  funext j
  refine congrArg f ?_
  funext a; apply Fin.ext; show 0 + 1 * (j a).val = (j a).val; omega
/-- Writing it through that access replaces it whole. -/
theorem write_access (f w : Vec F S512 .f32) : ((s3W).access (.whole S512)).write (Elt F) f w Finset.univ = w := by
  funext j
  have e : ((s3W).access (.whole S512)).emb j = j := by funext a; apply Fin.ext; show 0 + 1 * (j a).val = (j a).val; omega
  have h := View.write_emb_of_mem (v := ((s3W).access (.whole S512))) (Val := Elt F) f w (Finset.mem_univ j)
  rw [e] at h
  exact h

/-- Sixteen elements of a slab from position `16 n`, as the kernel loads them. -/
theorem read_lanes (y : Vec F S8192 .f32) (off : Fin 1 → ℕ) (inb : ∀ a, off a + S16.size a ≤ S8192.size a) (n : ℕ) (h : off 0 = 16 * n) :
    (fun j : S16.Idx => y ((Rect.unit (s := S8192) off S16.size inb).toLoadRect.idx j)) = lanes y n := by
  funext j
  refine congrArg y ?_
  funext a
  obtain rfl : a = (0 : Fin 1) := Subsingleton.elim (α := Fin 1) _ _
  apply Fin.ext
  have hj : (j 0).val < 16 := (j 0).isLt
  have hb : off 0 + 16 ≤ 8192 := inb 0
  show off 0 + 1 * (j 0).val = (16 * n + (j 0).val) % 8192
  rw [h] at hb ⊢
  rw [Nat.mod_eq_of_lt (by omega)]
  omega

/-- One trip's indexed store is one step of the count. -/
theorem scat_step (r g b : Vec F S8192 .f32) (f : Vec F S512 .f32) (n : ℕ)
    (off : Fin 1 → ℕ) (inb : ∀ a, off a + S16.size a ≤ S8192.size a) (h : off 0 = 16 * n)
    (v : IVec S16 32) (hv : ∀ a x, ((![v] : Fin 1 → IVec S16 32) a x).toNat < S512.size a)
    (e : v = k0_pay3 (F := F) ((s0W).view.readAt (Elt F) (Rect.unit (s := S8192) off S16.size inb).toLoadRect r)
      ((s1W).view.readAt (Elt F) (Rect.unit (s := S8192) off S16.size inb).toLoadRect g)
      ((s2W).view.readAt (Elt F) (Rect.unit (s := S8192) off S16.size inb).toLoadRect b)) :
    ((s3W).access (.whole S512)).write (Elt F) f
        (storeIdx (((s3W).access (.whole S512)).read (Elt F) f) ![v] k0_pay2 (fun _ => 1#1) true hv) Finset.univ
      = scat f (lanes r n) (lanes g n) (lanes b n) := by
  rw [write_access, read_access]
  subst e
  unfold scat
  have hr := read_lanes r off inb n h
  have hg := read_lanes g off inb n h
  have hb := read_lanes b off inb n h
  rw [← hr, ← hg, ← hb]
  rfl

/-- A load of sixteen consecutive words of the histogram. -/
theorem read_hist (h : Vec F S512 .f32) (o : ℕ) (inb : ∀ a, (![o] : Fin 1 → ℕ) a + S16.size a ≤ S512.size a) (j : S16.Idx) :
    (s3W).view.readAt (Elt F) (Rect.unit (s := S512) ![o] S16.size inb).toLoadRect h j = h (atHist (o + (j 0).val)) := by
  show h _ = h _
  refine congrArg h ?_
  funext a
  obtain rfl : a = (0 : Fin 1) := Subsingleton.elim (α := Fin 1) _ _
  apply Fin.ext
  have hj : (j 0).val < 16 := (j 0).isLt
  have hb : o + 16 ≤ 512 := inb 0
  show o + 1 * (j 0).val = (o + (j 0).val) % 512
  rw [Nat.mod_eq_of_lt (by omega)]
  omega

/-- The sum of a histogram's rows, written out. -/
theorem rowOf_out (h : Vec F S512 .f32) (y : S32.Idx) (n : ℕ) (hy : (y 0).val = n) :
    rowOf h y = FloatOps.addf (FloatOps.addf (FloatOps.addf (FloatOps.addf (FloatOps.addf (FloatOps.addf (FloatOps.addf (FloatOps.addf
      (FloatOps.addf (FloatOps.addf (FloatOps.addf (FloatOps.addf (FloatOps.addf (FloatOps.addf (FloatOps.addf (h (atHist n))
        (h (atHist (32 + n)))) (h (atHist (64 + n)))) (h (atHist (96 + n)))) (h (atHist (128 + n)))) (h (atHist (160 + n))))
        (h (atHist (192 + n)))) (h (atHist (224 + n)))) (h (atHist (256 + n)))) (h (atHist (288 + n)))) (h (atHist (320 + n))))
        (h (atHist (352 + n)))) (h (atHist (384 + n)))) (h (atHist (416 + n)))) (h (atHist (448 + n)))) (h (atHist (480 + n))) := by
  subst hy; rfl

/-- Where the row's `y`-th word lies in the counts: row `wid L`, column `y`. -/
theorem row_emb (y : S32.Idx) : (((hRow L).view.emb y) 0).val = wid L ∧ (((hRow L).view.emb y) 1).val = (y 0).val := by
  have e : Shape.reshapeEquiv squeezes_S1x32_S32.numel_eq y = (Fin.cons (0 : Fin 1) y : S1x32.Idx) :=
    Shape.reshapeEquiv_cons_one _ y
  have h0 : ((hRow L).view.emb y) 0 = (rowK L).emb (Shape.reshapeEquiv squeezes_S1x32_S32.numel_eq y) 0 := rfl
  have h1 : ((hRow L).view.emb y) 1 = (rowK L).emb (Shape.reshapeEquiv squeezes_S1x32_S32.numel_eq y) 1 := rfl
  rw [h0, h1, e]
  have o0 : k0_off4 L 0 = wid L := by rw [k0_off4_eq]; rfl
  have o1 : k0_off4 L 1 = 0 := by rw [k0_off4_eq]; rfl
  constructor
  · show k0_off4 L 0 + 1 * 0 = _; rw [o0]; omega
  · show k0_off4 L 1 + 1 * (y 0).val = _; rw [o1]; omega

/-- The tile's row of the counts, once the sums are copied out to it. -/
theorem row_written (x : Buf (Elt F) (xLoc d)) (f0 : Buf (Elt F) (hLoc d)) (v : Vec F S32 .f32) (hv : v = tileRow x (wid L)) :
    ((hRow L).view.loc (thr d L) ↦[(hRow L).view.set]{fullShare} (hRow L).view.writes (Elt F) f0 [⟨Rect.whole S32, v⟩] : sProp 𝕄)
      ⊢ rowPts d L (partial32 x) := by
  subst hv
  rw [rowPts_eq]
  refine Entails.of_eq (pointsTo_congr fun i hi => ?_)
  obtain ⟨y, rfl⟩ : ∃ y, (hRow L).view.emb y = i := by
    obtain ⟨y, -, hy⟩ := Finset.mem_map.mp hi
    exact ⟨y, hy⟩
  have hr : (hRow L).view.read (Elt F) ((hRow L).view.writes (Elt F) f0 [⟨Rect.whole S32, tileRow x (wid L)⟩]) y = tileRow x (wid L) y :=
    View.read_writes_apply_of_pieces _ _ (tileRow x (wid L)) _
      (List.forall_mem_cons.mpr ⟨fun j => congrArg _ (Rect.emb_whole_apply _ j).symm, List.forall_mem_nil _⟩) y
      ⟨_, List.mem_singleton.mpr rfl, by rw [Rect.set_whole]; exact Finset.mem_univ _⟩
  refine hr.trans ?_
  obtain ⟨h0, h1⟩ := row_emb L y
  show _ = tileRow x (((hRow L).view.emb y) 0).val (atBin (((hRow L).view.emb y) 1).val)
  rw [h0, h1]
  refine congrArg _ ?_
  funext a
  obtain rfl : a = (0 : Fin 1) := Subsingleton.elim (α := Fin 1) _ _
  apply Fin.ext
  have hj : (y 0).val < 32 := (y 0).isLt
  show _ = (y 0).val % 32
  omega

/-- The count's invariant: the three slabs as copied in, the histogram as counted so far. -/
def inv (x : Buf (Elt F) (xLoc d)) (n : ℕ) (_ : PUnit) : sProp 𝕄 :=
  iprop(((s0W).view.loc (thr d L) ↦{fullShare} slab x 0 (wid L)) ∗ ((s1W).view.loc (thr d L) ↦{fullShare} slab x 1 (wid L))
    ∗ ((s2W).view.loc (thr d L) ↦{fullShare} slab x 2 (wid L))
    ∗ (s3W).view.loc (thr d L) ↦{fullShare} histAt (slab x 0 (wid L)) (slab x 1 (wid L)) (slab x 2 (wid L)) n)

/-- A tile's run: with its share of the image and its row, it ends with its row at its pixels' counts. -/
theorem tile_body (q : PosShare TreeShare) (x : Buf (Elt F) (xLoc d)) (f0 : Buf (Elt F) (hLoc d))
    (O : CellTallies nD τ sig (HIx 1)) (W : Waits sig (HIx 1)) (hO : ∀ g, O g none = 0) :
    iprop(levAts (K (F := F)).L (K (F := F)).lev ∗ emp ∗ (xPts d q x ∗ rowPts d L f0)
        ∗ scopedBufs (thr d L) ∗ scopedSems0 (thr d L) ∗ owes (thr d L) O W)
      ⊢ wp frame (wpE (defs₀ (F := F)) 𝒱₀ (thr d L) none) Set.univ
          (cc0__hist_sc_body L xW (Memref.isWhole_whole _) hW (Memref.isWhole_whole _)
            s0W (Memref.isWhole_whole _) s1W (Memref.isWhole_whole _) s2W (Memref.isWhole_whole _) s3W (Memref.isWhole_whole _)
            s4W (Memref.isWhole_whole _) cc0_scoped0 cc0_scoped1 cc0_scoped2 cc0_scoped3)
          fun _ => iprop((xPts d q x ∗ rowPts d L (partial32 x)) ∗ scopedBufs (thr d L) ∗ scopedSems0 (thr d L)
            ∗ ∃ W', ⌜∀ p ∈ W', p ∈ W ∨ p.2 = none⌝ ∗ owes (thr d L) O W') := by
  simp only [cc0__hist_sc_body_eq_skeleton]; unfold cc0__hist_sc_body_skel
  rw [(K (F := F)).scopedBufs_V facts d (cV L) (jV L), SparseCore.Cfg.scopedSems0_V (Val := Elt F) d (cV L) (jV L), ownSems0_V, ownBufs_V]
  iintro ⟨#Hlv, -, ⟨Hx, Hrow⟩, ⟨⟨%g0, H0⟩, ⟨%g1, H1⟩, ⟨%g2, H2⟩, ⟨%g3, H3⟩, ⟨%g4, H4⟩, Hbufs⟩, ⟨Hs0, Hs1, Hs2, Hs3, Hsems⟩, HO⟩
  ihave Hmw := ((K (F := F)).mayWaits_none (thr := thr d L) hO) $$ Hlv
  ihave Hx' := (show (xPts d q x : sProp 𝕄) ⊢ ((xW).view.loc (thr d L) ↦{q} x) from Entails.of_eq (by simp only [Memref.view_whole])) $$ Hx
  ihave H0' := (show ((thr d L).loc cc0_scratch0 ↦{fullShare} g0 : sProp 𝕄) ⊢ ((s0W).view.loc (thr d L) ↦{fullShare} g0) from Entails.of_eq rfl) $$ H0
  ihave H1' := (show ((thr d L).loc cc0_scratch1 ↦{fullShare} g1 : sProp 𝕄) ⊢ ((s1W).view.loc (thr d L) ↦{fullShare} g1) from Entails.of_eq rfl) $$ H1
  ihave H2' := (show ((thr d L).loc cc0_scratch2 ↦{fullShare} g2 : sProp 𝕄) ⊢ ((s2W).view.loc (thr d L) ↦{fullShare} g2) from Entails.of_eq rfl) $$ H2
  ihave H3' := (show ((thr d L).loc cc0_scratch3 ↦{fullShare} g3 : sProp 𝕄) ⊢ ((s3W).view.loc (thr d L) ↦{fullShare} g3) from Entails.of_eq rfl) $$ H3
  ihave H4' := (show ((thr d L).loc cc0_scratch4 ↦{fullShare} g4 : sProp 𝕄) ⊢ ((s4W).view.loc (thr d L) ↦{fullShare} g4) from Entails.of_eq rfl) $$ H4
  sl_exec
  ihave H0s := (land d L (r := cc0_scratch0) g0 (tile_body.sl.dma0 d L x) (slab x 0 (wid L)) (read_slab d x _ _ 0 (wid L) (off1_at L))) $$ H0'
  ihave H1s := (land d L (r := cc0_scratch1) g1 (tile_body.sl.dma0_1 d L x) (slab x 1 (wid L)) (read_slab d x _ _ 1 (wid L) (off2_at1 L))) $$ H1'
  ihave H2s := (land d L (r := cc0_scratch2) g2 (tile_body.sl.dma0_2 d L x) (slab x 2 (wid L)) (read_slab d x _ _ 2 (wid L) (off2_at2 L))) $$ H2'
  ihave H3s := (cleared d L _ tile_body.sl.H3'_32 ?hz ?hc (slab x 0 (wid L)) (slab x 1 (wid L)) (slab x 2 (wid L))) $$ H3'
  case hz =>
    unfold tile_body.sl.H3'_32
    repeat' first
      | exact List.forall_mem_nil _
      | refine List.forall_mem_cons.mpr ⟨fun _ => rfl, ?_⟩
  case hc => rfl
  sl_for (inv d L x) $$ [H0s H1s H2s H3s]
  case region =>
    intro k _
    unfold inv
    iintro ⟨H0, H1, H2, H3⟩
    sl_exec (disch := exact chk_bins _ _ _)
    ihave H3' := (Entails.of_eq (pts_access d L _)) $$ H3
    iapply (SparseCore.wp_vectorStoreIdx 𝒱₀ (thr d L) none Set.univ (base := (s3W))) $$ H3'
    iintro H3'
    sl_step
    isplitl [H0]; · iexact H0
    isplitl [H1]; · iexact H1
    isplitl [H2]; · iexact H2
    ihave H3 := (Entails.of_eq (pts_access d L _).symm) $$ H3'
    iapply (Entails.of_eq (congrArg (fun f => ((s3W).view.loc (thr d L) ↦{fullShare} f : sProp 𝕄))
      (scat_step (slab x 0 (wid L)) (slab x 1 (wid L)) (slab x 2 (wid L)) _ k.val (k0_off3 k) (k0_off3_inb k)
        (by rw [k0_off3_eq]; rfl) (tile_body.sl.v143 d L x k) _ rfl)))
    iexact H3
  · unfold inv
    isplitl [H0s]; · iexact H0s
    isplitl [H1s]; · iexact H1s
    isplitl [H2s]; · iexact H2s
    iexact H3s
  iintro %_ HI
  unfold inv
  icases HI with ⟨H0, H1, H2, H3⟩
  ihave Hrow' := (Entails.of_eq (rowPts_eq d L f0)) $$ Hrow
  sl_exec
  have hrow : tile_body.sl.dma36 d L x g4 = tileRow x (wid L) := by
    unfold tile_body.sl.dma36 tile_body.sl.H4'_2 tile_body.sl.r tile_body.sl.r_1
    unfold tileRow
    rw [show Scf.trips k0_t1_loop.lb k0_t1_loop.ub k0_t1_loop.st = 512 from by decide]
    generalize histAt (slab x 0 (wid L)) (slab x 1 (wid L)) (slab x 2 (wid L)) 512 = h
    funext y
    refine View.read_writes_apply_of_pieces _ _ (rowOf h) _ ?_ y (View.cover_of_tiled (s := S32) _ S16.size rfl y)
    refine List.forall_mem_cons.mpr ⟨fun j => ?_, List.forall_mem_cons.mpr ⟨fun j => ?_, List.forall_mem_nil _⟩⟩
    · rw [rowOf_out h _ (16 + (j 0).val) (by show 16 + 1 * (j 0).val = _; omega)]
      iterate 15 refine congrArg₂ FloatOps.addf ?_ ((read_hist h _ _ j).trans (congrArg (fun n => h (atHist n)) ?_))
      · exact read_hist h 16 _ j
      all_goals omega
    · rw [rowOf_out h _ (j 0).val (by show 0 + 1 * (j 0).val = _; omega)]
      iterate 15 refine congrArg₂ FloatOps.addf ?_ (read_hist h _ _ j)
      exact (read_hist h 0 _ j).trans (congrArg (fun n => h (atHist n)) (by omega))
  ihave Hrow := (row_written d L x f0 _ hrow) $$ Hrow'
  sl_step
  ihave Hx := (show ((xW).view.loc (thr d L) ↦{q} x) ⊢ (xPts d q x : sProp 𝕄) from Entails.of_eq rfl) $$ Hx'
  isplitl [Hx Hrow]
  · isplitl [Hx] <;> iassumption
  isplitl [H0 H1 H2 H3 H4' Hbufs]
  · isplitl [H0]; · iexists _; iexact H0
    isplitl [H1]; · iexists _; iexact H1
    isplitl [H2]; · iexists _; iexact H2
    isplitl [H3]; · iexists _; iexact H3
    isplitl [H4']; · iexists _; iexact H4'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists (insert (SemLoc.dma cc0_scoped3.sem, none) (insert (SemLoc.dma cc0_scoped2.sem, none)
    (insert (SemLoc.dma cc0_scoped1.sem, none) (insert (SemLoc.dma cc0_scoped0.sem, none) W)))); isplitr
  · ipureintro; intro p hp
    simp only [Finset.mem_insert] at hp
    rcases hp with rfl | rfl | rfl | rfl | hp
    · exact .inr rfl
    · exact .inr rfl
    · exact .inr rfl
    · exact .inr rfl
    · exact .inl hp
  iexact HO

end Tile

end Cert.Proof.SC

end
-- ==== Proof.Cores.lean ====
/-
  The tiles as the call deals them: which words of the counts each core and each tile writes, what the call hands the
  cores and the tiles and what it gets back, and each tile's task, from Tile.lean's run of its body.
-/
module

public import proofs.«01_k».proof.Proof.Tile
public import Idealize.ShloMosaic.Lib.ShareLeaves

@[expose] public section

set_option maxRecDepth 16384

noncomputable section

namespace Cert.Proof.SC

open Cert.KernelIdeal Cert.KernelIdeal.Gen
open Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_v0_scv : Memref Cert.KernelIdeal.sig Kind.scVector Space.hbm Cert.KernelIdeal.S786432 EltTy.f32)
local notation "hW" => (Memref.whole Cert.KernelIdeal.main_v1_scv : Memref Cert.KernelIdeal.sig Kind.scVector Space.hbm Cert.KernelIdeal.S32x32 EltTy.f32)
local notation "s0W" => (Memref.whole Cert.KernelIdeal.cc0_scratch0 : Memref Cert.KernelIdeal.sig Kind.scVector Space.vmem Cert.KernelIdeal.S8192 EltTy.f32)
local notation "s1W" => (Memref.whole Cert.KernelIdeal.cc0_scratch1 : Memref Cert.KernelIdeal.sig Kind.scVector Space.vmem Cert.KernelIdeal.S8192 EltTy.f32)
local notation "s2W" => (Memref.whole Cert.KernelIdeal.cc0_scratch2 : Memref Cert.KernelIdeal.sig Kind.scVector Space.vmem Cert.KernelIdeal.S8192 EltTy.f32)
local notation "s3W" => (Memref.whole Cert.KernelIdeal.cc0_scratch3 : Memref Cert.KernelIdeal.sig Kind.scVector Space.vmem Cert.KernelIdeal.S512 EltTy.f32)
local notation "s4W" => (Memref.whole Cert.KernelIdeal.cc0_scratch4 : Memref Cert.KernelIdeal.sig Kind.scVector Space.vmem Cert.KernelIdeal.S32 EltTy.f32)

/-! ## The tiles' rows of the counts -/

/-- The grid point of subcore `s` on core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The index of a vector of 32 words. -/
def ix1 (n : Fin 32) : S32.Idx := fun | 0 => n | ⟨_ + 1, h⟩ => absurd h (Nat.not_lt.2 (Nat.le_add_left _ _))

/-- The words of the counts that the tile at `L` writes. -/
abbrev rowSet (L : grid0.Coords) : Finset S32x32.Idx := (hRow L).view.set

omit [FloatOps F] in
/-- They are the words of row `wid L`. -/
theorem mem_rowSet (L : grid0.Coords) (i : S32x32.Idx) : i ∈ rowSet L ↔ (i 0).val = wid L := by
  constructor
  · intro h
    obtain ⟨y, -, rfl⟩ := Finset.mem_map.mp h
    exact (row_emb L y).1
  · intro h
    refine Finset.mem_map.mpr ⟨ix1 (i 1), Finset.mem_univ _, ?_⟩
    have e := row_emb L (ix1 (i 1))
    funext a
    match a with
    | 0 => exact Fin.ext (e.1.trans h.symm)
    | 1 => exact Fin.ext e.2
    | ⟨_ + 2, h⟩ => exact absurd h (Nat.not_lt.2 (Nat.le_add_left _ _))

omit [FloatOps F] in
/-- The number of the tile at core `c`, subcore `s`. -/
theorem wid_coords (c : Fin (grid0.bound 0)) (s : Fin (grid0.bound 1)) : wid (coordsV c s) = 2 * s.val + c.val := rfl

/-- The words of the counts that core `c`'s tiles write. -/
def coreSet (c : Fin 2) : Finset S32x32.Idx := (Finset.univ : Finset (Fin 16)).biUnion fun s => rowSet (coordsV c s)

omit [FloatOps F] in
/-- A core's words are those of every other row, from its own number on. -/
theorem mem_coreSet (c : Fin 2) (i : S32x32.Idx) : i ∈ coreSet c ↔ (i 0).val % 2 = c.val := by
  have hc := c.isLt
  have hi : (i 0).val < 32 := (i 0).isLt
  unfold coreSet
  simp only [Finset.mem_biUnion, Finset.mem_univ, true_and, mem_rowSet]
  constructor
  · rintro ⟨s, h⟩
    have h : (i 0).val = 2 * s.val + c.val := h
    omega
  · intro h; exact ⟨⟨(i 0).val / 2, by omega⟩, by show _ = 2 * ((i 0).val / 2) + c.val; omega⟩

omit [FloatOps F] in
/-- Different subcores of a core write different rows. -/
theorem rows_disjoint (c : Fin 2) : ∀ s ∈ (Finset.univ : Finset (Fin 16)), ∀ s' ∈ (Finset.univ : Finset (Fin 16)), s ≠ s' →
    Disjoint (rowSet (coordsV c s)) (rowSet (coordsV c s')) := by
  intro s _ s' _ hne
  refine Finset.disjoint_left.mpr fun i h h' => hne (Fin.ext ?_)
  have e : (i 0).val = 2 * s.val + c.val := (mem_rowSet _ _).mp h
  have e' : (i 0).val = 2 * s'.val + c.val := (mem_rowSet _ _).mp h'
  omega

omit [FloatOps F] in
/-- The two cores' words are disjoint. -/
theorem cores_disjoint : ∀ c ∈ (Finset.univ : Finset (Fin 2)), ∀ c' ∈ (Finset.univ : Finset (Fin 2)), c ≠ c' →
    Disjoint (coreSet c) (coreSet c') := by
  intro c _ c' _ hne
  refine Finset.disjoint_left.mpr fun i h h' => hne (Fin.ext ?_)
  have e := (mem_coreSet _ _).mp h; have e' := (mem_coreSet _ _).mp h'
  omega

omit [FloatOps F] in
/-- The two cores' words are all of the counts. -/
theorem cores_cover : (Finset.univ : Finset (Fin 2)).biUnion coreSet = Finset.univ := by
  ext i
  simp only [Finset.mem_biUnion, Finset.mem_univ, true_and, mem_coreSet, iff_true]
  exact ⟨⟨(i 0).val % 2, by omega⟩, rfl⟩

/-! ## What the call hands the cores and the tiles -/

/-- A core's share of the image. -/
abbrev qC (c : Fin 2) : PosShare TreeShare := ShareLeaves.leaf 1 fullShare c
/-- A tile's share of its core's share of the image. -/
abbrev qT (c : Fin 2) (s : Fin 16) : PosShare TreeShare := ShareLeaves.leaf 4 (qC c) s

/-- Core `c`'s rows of the counts. -/
abbrev corePts (d : Dev nD) (c : Fin 2) (f : Buf (Elt F) (hLoc d)) : sProp 𝕄 := hLoc d ↦[coreSet c]{fullShare} f

omit [FloatOps F] in
/-- A core's words are its sixteen tiles' rows. -/
theorem corePts_rows (d : Dev nD) (c : Fin 2) (f : Buf (Elt F) (hLoc d)) :
    (corePts d c f : sProp 𝕄) = bigSep Finset.univ fun s : Fin 16 => rowPts d (coordsV c s) f := by
  unfold corePts coreSet
  exact pointsTo_biUnion Finset.univ (ℓ := hLoc d) (fun s : Fin 16 => rowSet (coordsV c s)) (rows_disjoint c)

omit [FloatOps F] in
/-- The counts whole are the two cores' words. -/
theorem hPts_cores (d : Dev nD) (f : Buf (Elt F) (hLoc d)) :
    (hLoc d ↦{fullShare} f : sProp 𝕄) = bigSep Finset.univ fun c : Fin 2 => corePts d c f := by
  unfold corePts
  rw [← pointsTo_biUnion Finset.univ (ℓ := hLoc d) coreSet cores_disjoint, cores_cover]; try rfl

omit [FloatOps F] in
/-- The image whole is the two cores' shares of it. -/
theorem xPts_cores (d : Dev nD) (x : Buf (Elt F) (xLoc d)) :
    (xLoc d ↦{fullShare} x : sProp 𝕄) = bigSep Finset.univ fun c : Fin 2 => xPts d (qC c) x :=
  ShareLeaves.pointsTo_leaves _ x 1 fullShare

omit [FloatOps F] in
/-- A core's share of the image is its sixteen tiles' shares. -/
theorem xPts_tiles (d : Dev nD) (c : Fin 2) (x : Buf (Elt F) (xLoc d)) :
    (xPts d (qC c) x : sProp 𝕄) = bigSep Finset.univ fun s : Fin 16 => xPts d (qT c s) x :=
  ShareLeaves.pointsTo_leaves _ x 4 (qC c)

variable (X : ∀ d : Dev nD, Buf (Elt F) (xLoc d)) (H : ∀ d : Dev nD, Buf (Elt F) (hLoc d))

/-- What the call hands over: to each core a share of the image and its rows of the counts, to each tile a share of
    that and its row; back come the same with the rows counted. -/
def P : (K (F := F)).Pay (nD := nD) (Val := Elt F) (Name := ℕ) (U := UU) where
  st := fun q d c => match q with | 0 => iprop(xPts d (qC c) (X d) ∗ corePts d c (H d))
  dn := fun q d c => match q with | 0 => iprop(xPts d (qC c) (X d) ∗ corePts d c (partial32 (X d)))
  go := fun q d c i => match q with | 0 => iprop(xPts d (qT c i) (X d) ∗ rowPts d (coordsV c i) (H d))
  td := fun q d c i => match q with | 0 => iprop(xPts d (qT c i) (X d) ∗ rowPts d (coordsV c i) (partial32 (X d)))
  x := fun _ _ => iprop(emp)

/-- What the call hands over can be kept in an invariant. -/
instance P_storable : (P X H).IsStorable where
  st q d c := match q with
    | 0 => (inferInstance : BI.Storable (upEmb : UEmb _ 𝕄) iprop(xPts d (qC c) (X d) ∗ corePts d c (H d)))
  dn q d c := match q with
    | 0 => (inferInstance : BI.Storable (upEmb : UEmb _ 𝕄) iprop(xPts d (qC c) (X d) ∗ corePts d c (partial32 (X d))))
  go q d c i := match q with
    | 0 => (inferInstance : BI.Storable (upEmb : UEmb _ 𝕄) iprop(xPts d (qT c i) (X d) ∗ rowPts d (coordsV c i) (H d)))
  td q d c i := match q with
    | 0 => (inferInstance : BI.Storable (upEmb : UEmb _ 𝕄) iprop(xPts d (qT c i) (X d) ∗ rowPts d (coordsV c i) (partial32 (X d))))

/-- The kernel's body on each core's subcores, as the call runs it. -/
theorem defs₀_vector (c : Fin τ.nSC) (s : Fin τ.nSub) :
    defs₀ (F := F) (.scVector c s) 0 ()
      = SparseCore.onTile hcore0 hsub0 (fun c s => cc0__hist_sc_body (coordsV c s) xW (Memref.isWhole_whole _) hW (Memref.isWhole_whole _)
            s0W (Memref.isWhole_whole _) s1W (Memref.isWhole_whole _) s2W (Memref.isWhole_whole _) s3W (Memref.isWhole_whole _)
            s4W (Memref.isWhole_whole _) cc0_scoped0 cc0_scoped1 cc0_scoped2 cc0_scoped3) ⟨⟩ c s := rfl

omit [FloatOps F] in
/-- A bound on the waits may be weakened by a further case. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile's task, from its share of the image and its row to the row counted. -/
theorem tileObl : (K (F := F)).TileObl (D (F := F)) 𝒱 (P X H) v₀ 0 := by
  intro d c i O W hO _ _
  simp only [show (P X H).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (qT c i) (X d) (H d) O W hO).trans (wp_mono frame _ _ fun _ => obl_post)

omit [FloatOps F] in
/-- Sixteen tasks on a core are the sixteen subcores. -/
theorem bigSep_tasks (Φ : Fin 16 → sProp 𝕄) :
    (bigSep Finset.univ fun i : Fin ((K (F := F)).nSub 0) => Φ i) = bigSep Finset.univ Φ := rfl

/-- A core's operands split into its tiles', and its tiles' results gather into its own. -/
theorem vecSplit : (K (F := F)).VecSplit' (P X H) 0 := by
  intro d c
  show iprop(xPts d (qC c) (X d) ∗ corePts d c (H d)) ⊢ |={Set.univ}=> iprop(
      (bigSep Finset.univ fun i : Fin 16 => iprop(xPts d (qT c i) (X d) ∗ rowPts d (coordsV c i) (H d)))
      ∗ ((bigSep Finset.univ fun i : Fin 16 => iprop(xPts d (qT c i) (X d) ∗ rowPts d (coordsV c i) (partial32 (X d))))
          -∗ iprop(xPts d (qC c) (X d) ∗ corePts d c (partial32 (X d)))))
  rw [bigSep_sep', bigSep_sep', ← xPts_tiles, ← corePts_rows, ← corePts_rows]
  iintro H; imodintro
  isplitl [H]; · iexact H
  iintro H; iexact H

omit [FloatOps F] in
/-- Nothing, held many times over, is nothing. -/
theorem bigSep_emp' {I : Type} (s : Finset I) : (bigSep s fun _ => iprop(emp)) = (iprop(emp) : sProp 𝕄) := bigSep_emp_const s

/-- What @main hands the call: the image and the counts, whole. -/
theorem st0_eq (d : Dev nD) : (bigSep Finset.univ fun c : Fin ((K (F := F)).nCore 0) => (P X H).st 0 d c)
    = iprop((xLoc d ↦{fullShare} X d) ∗ hLoc d ↦{fullShare} H d) := by
  show (bigSep (Finset.univ : Finset (Fin 2)) fun c => iprop(xPts d (qC c) (X d) ∗ corePts d c (H d))) = _
  rw [bigSep_sep', ← xPts_cores, ← hPts_cores]
/-- What @main gets back from the call: the image as it was, the counts counted. -/
theorem dn0_eq (d : Dev nD) : (bigSep Finset.univ fun c : Fin ((K (F := F)).nCore 0) => (P X H).dn 0 d c)
    = iprop((xLoc d ↦{fullShare} X d) ∗ hLoc d ↦{fullShare} (partial32 (X d) : Buf (Elt F) (hLoc d))) := by
  show (bigSep (Finset.univ : Finset (Fin 2)) fun c => iprop(xPts d (qC c) (X d) ∗ corePts d c (partial32 (X d)))) = _
  rw [bigSep_sep', ← xPts_cores, ← hPts_cores]

end Cert.Proof.SC

end
-- ==== Proof.Finish.lean ====
/-
  The TensorCore region of @main: the body of the closing kernel, its proof data and its region record.  The kernel reads the tiles' counts and
  their transpose and leaves the sorted bins and their features.
-/
module

public import proofs.«01_k».proof.Proof.Setup
public import proofs.«01_k».proof.Proof.Gen.KernelIdeal.Launch
public import proofs.«01_k».proof.Proof.Gen.KernelIdeal.Points
public import Idealize.ShloMosaic.Lib.VecWindow
public import Idealize.ShloMosaic.Lib.Pipeline.ValueKit

@[expose] public section

set_option maxRecDepth 16384

noncomputable section

namespace Cert.Proof.SC

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig (HIx 1) (Elt F) ℕ UU ℕ

/-- What the closing kernel stores, from the tiles' counts `a` and their transpose `b`. -/
def finish (a b : Vec F S32x32 .f32) : Vec F S32x2 .f32 := k1_pay1 (k1_pay5 a) (k1_pay6 a b) (k1_pay7 a b)

/-- The closing kernel's body, over its three staging buffers held whole. -/
theorem finish_body (d : Dev nD) (a b : Vec F S32x32 .f32) (f2 : Vec F S32x2 .f32) (Q : PUnit → sProp 𝕄) :
    iprop(((Memref.whole cc1_stg0_0 : Memref sig .tc .vmem S32x32 .f32).view.loc (d : Thread nD τ) ↦{fullShare} a)
        ∗ ((Memref.whole cc1_stg1_0 : Memref sig .tc .vmem S32x32 .f32).view.loc (d : Thread nD τ) ↦{fullShare} b)
        ∗ ((Memref.whole cc1_stg2_0 : Memref sig .tc .vmem S32x2 .f32).view.loc (d : Thread nD τ) ↦{fullShare} f2)
        ∗ (iprop(((Memref.whole cc1_stg0_0 : Memref sig .tc .vmem S32x32 .f32).view.loc (d : Thread nD τ) ↦{fullShare} a)
            ∗ ((Memref.whole cc1_stg1_0 : Memref sig .tc .vmem S32x32 .f32).view.loc (d : Thread nD τ) ↦{fullShare} b)
            ∗ ((Memref.whole cc1_stg2_0 : Memref sig .tc .vmem S32x2 .f32).view.loc (d : Thread nD τ) ↦{fullShare} finish a b)) -∗ Q ⟨⟩))
      ⊢ wp frame (wpE (defs₀ (F := F)) Variants.none (d : Thread nD τ) none) Set.univ
          (cc1__finish_tc (Memref.whole cc1_stg0_0) (Memref.isWhole_whole _) (Memref.whole cc1_stg1_0) (Memref.isWhole_whole _)
            (Memref.whole cc1_stg2_0) (Memref.isWhole_whole _)) Q := by
  rw [cc1__finish_tc_eq_skeleton]
  unfold cc1__finish_tc_skel
  rw [k1_part1_eq_skeleton]
  unfold k1_part1_skel
  iintro ⟨H0, H1, H2, Hk⟩
  sl_exec
  sl_step
  iapply Hk
  isplitl [H0]; · iexact H0
  isplitl [H1]; · iexact H1
  have ra : (Memref.whole cc1_stg0_0 : Memref sig .tc .vmem S32x32 .f32).view.readAt (Elt F)
      (Rect.unit (s := S32x32) ![0, 0] S32x32.size inb_S32x32_S32x32_0_0).toLoadRect a = a :=
    View.readAt_full (Memref.whole cc1_stg0_0 : Memref sig .tc .vmem S32x32 .f32).view a inb_S32x32_S32x32_0_0
  have rb : (Memref.whole cc1_stg1_0 : Memref sig .tc .vmem S32x32 .f32).view.readAt (Elt F)
      (Rect.unit (s := S32x32) ![0, 0] S32x32.size inb_S32x32_S32x32_0_0).toLoadRect b = b :=
    View.readAt_full (Memref.whole cc1_stg1_0 : Memref sig .tc .vmem S32x32 .f32).view b inb_S32x32_S32x32_0_0
  rw [ra, rb]
  have e : (Memref.whole cc1_stg2_0 : Memref sig .tc .vmem S32x2 .f32).view.writes (Elt F) f2
      [⟨Rect.unit ![0, 0] S32x2.size inb_S32x2_S32x2_0_0, finish a b⟩] = finish a b :=
    View.read_writes_full (Memref.whole cc1_stg2_0 : Memref sig .tc .vmem S32x2 .f32).view f2 inb_S32x2_S32x2_0_0 (finish a b) []
  iapply (Entails.of_eq (congrArg (fun f => ((Memref.whole cc1_stg2_0 : Memref sig .tc .vmem S32x2 .f32).view.loc (d : Thread nD τ) ↦{fullShare} f : sProp 𝕄)) e))
  iexact H2

/-! ## The proof data -/

/-- The pairs a TensorCore past the launch's call may have recorded. -/
def recd (d : Dev nD) : Set (SemLoc sig × HIx 1) := {p | (K (F := F)).lev ((d : Thread nD τ), p.1) p.2 ≤ 8}

/-- The region's proof data: the three arrays at their entry contents; after the body the inputs as they were and the result's buffer at
    what the kernel stores. -/
def dat (d : Dev nD) (a b : Vec F S32x32 .f32) (r : Vec F S32x2 .f32) : Dat τ (Elt F) (HIx 1) ℕ UU ℕ cfg1 d where
  A w := match w with
    | ⟨0, _⟩ => a
    | ⟨1, _⟩ => b
    | ⟨2, _⟩ => r
  after w _ := match w with
    | ⟨0, _⟩ => a
    | ⟨1, _⟩ => b
    | ⟨2, _⟩ => finish a b
  Φ _ := BI.emp
  q _ := fullShare
  owed _ := 0
  recorded _ := recd (F := F) d

/-- The block of the counts' window is the array. -/
theorem blk0_read (a : Vec F S32x32 .f32) : ((cfg1.win 0).blk t1_0).view.read (Elt F) a = a := by
  have h : ∀ i, win1_0.index t1_0 i = 0 := by decide
  funext y; refine congrArg a (funext fun i => Fin.ext ?_)
  blk_simp
  rw [h i]; omega

/-- The block of the transposed counts' window is the array. -/
theorem blk1_read (a : Vec F S32x32 .f32) : ((cfg1.win 1).blk t1_0).view.read (Elt F) a = a := by
  have h : ∀ i, win1_1.index t1_0 i = 0 := by decide
  funext y; refine congrArg a (funext fun i => Fin.ext ?_)
  blk_simp
  rw [h i]; omega

/-- The first window's buffer holds the counts when the body begins. -/
theorem before_0 (d : Dev nD) (a b : Vec F S32x32 .f32) (r : Vec F S32x2 .f32) (x) : (dat d a b r).before 0 t1_0 x = a := by
  unfold Dat.before; rw [if_pos (fetch1_0 t1_0)]; exact blk0_read a

/-- The second window's buffer holds the transposed counts when the body begins. -/
theorem before_1 (d : Dev nD) (a b : Vec F S32x32 .f32) (r : Vec F S32x2 .f32) (x) : (dat d a b r).before 1 t1_0 x = b := by
  unfold Dat.before; rw [if_pos (fetch1_1 t1_0)]; exact blk1_read b

/-- The result's array after the region. -/
theorem arrAt_2 (d : Dev nD) (a b : Vec F S32x32 .f32) (r : Vec F S32x2 .f32) : (dat d a b r).arrAt 2 cfg1.N = finish a b := by
  refine (dat d a b r).arrAt_eq_of_after_last 2 t1_0 (by decide +kernel) _ fun j => ?_
  dsimp only [dat]
  rfl

/-- The library's body obligation, from `finish_body`. -/
theorem body_obligation (d : Dev nD) (a b : Vec F S32x32 .f32) (r : Vec F S32x2 .f32) :
    BodyObligation (dat d a b r) (defs₀ (F := F)) 𝒱₀ none Set.univ := fun t => by
  obtain rfl := fin_N1 t
  rw [bigSep_W1, bigSep_W1]
  simp only [owns_whole_eq]
  rw [show (dat d a b r).Φ t1_0.castSucc = (BI.emp : sProp 𝕄) from rfl, show (dat d a b r).Φ t1_0.succ = (BI.emp : sProp 𝕄) from rfl,
    show (dat d a b r).owesAt none t1_0.succ = (dat d a b r).owesAt none t1_0.castSucc from rfl]
  iintro ⟨-, Howes, ⟨%d0, %f0, %hf0, H0⟩, ⟨%d1, %f1, %hf1, H1⟩, ⟨%d2, %f2, -, H2⟩⟩
  rw [before_0] at hf0
  rw [before_1] at hf1
  subst hf0 hf1
  iapply (finish_body d f0 f1 f2 _)
  isplitl [H0]; · iexact H0
  isplitl [H1]; · iexact H1
  isplitl [H2]; · iexact H2
  iintro ⟨H0, H1, H2⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The region's record -/

/-- The pipeline's configuration is admissible. -/
abbrev adm : (p : Fin 1) → (pcfgs (F := F) p).Adm := fun p => (cfgs p).toPCfg_adm

variable (A B : Dev nD → Vec F S32x32 .f32) (R : Dev nD → Vec F S32x2 .f32)

/-- The proof data of the program's one pipeline. -/
def pdats : (p : Fin 1) → (c : Dev nD) → Dat τ (Elt F) (HIx 1) ℕ UU ℕ (Pipeline.pin (pcfgs (F := F)) adm p) c
  | ⟨0, _⟩ => fun c => dat c (A c) (B c) (R c)

/-- The core's tallies between the launch's call and its end. -/
abbrev owesTc (d : Dev nD) : sProp 𝕄 :=
  iprop(∃ W, ⌜(K (F := F)).WBelow (d : Thread nD τ) W 8⌝ ∗ owes (d : Thread nD τ) (0 : CellTallies nD τ sig (HIx 1)) W)

/-- The region's arrays are the counts, their transpose and the result. -/
theorem arrays_pts (d : Dev nD) (n : Nat) :
    ((pdats A B R 0 d).arrays ((pdats A B R 0 d).arrAt · n) : sProp 𝕄)
      = iprop(((d : Thread nD τ).loc main_v1 ↦{fullShare} (dat d (A d) (B d) (R d)).arrAt 0 n)
          ∗ ((d : Thread nD τ).loc main_v2 ↦{fullShare} (dat d (A d) (B d) (R d)).arrAt 1 n)
          ∗ ((d : Thread nD τ).loc main_v3 ↦{fullShare} (dat d (A d) (B d) (R d)).arrAt 2 n)) := by
  rw [Pipeline.arrays_eq (Pipeline.pin (pcfgs (F := F)) adm) (pdats A B R) 0 d launch1.arr_whole ((pdats A B R 0 d).share_full fun _ => rfl)]
  exact bigSep_W1 _

set_option backward.isDefEq.respectTransparency.types false in
/-- The region over the three arrays and the core's tallies. -/
def reg : RegionSeg (pcfgs (F := F)) adm (pdats A B R) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c (A c) (B c) (R c)).loose
  hwaits := Pipeline.hwaits_of_owed_zero _ _ _ _ _ _ 0 fun _ _ => rfl
  pre d := iprop(((d : Thread nD τ).loc main_v1 ↦{fullShare} A d) ∗ ((d : Thread nD τ).loc main_v2 ↦{fullShare} B d)
    ∗ ((d : Thread nD τ).loc main_v3 ↦{fullShare} R d) ∗ owesTc d)
  post d := iprop(((d : Thread nD τ).loc main_v1 ↦{fullShare} A d) ∗ ((d : Thread nD τ).loc main_v2 ↦{fullShare} B d)
    ∗ ((d : Thread nD τ).loc main_v3 ↦{fullShare} finish (A d) (B d)) ∗ owesTc d)
  X _ := BI.emp
  Y _ := BI.emp
  Z _ := BI.emp
  hentry d := by
    rw [Pipeline.ownSems0_none, arrays_pts A B R d 0]
    iintro ⟨⟨H1, H2, H3, %W, %hW, HO⟩, -, -⟩
    imodintro
    isplitl [H1 H2 H3]
    · isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin d := by
    rw [show (pdats A B R 0 d).Φ 0 = (BI.emp : sProp 𝕄) from rfl]
    iintro ⟨-, -, Hr⟩
    ihave Hr' := (Entails.of_eq (scopedRest1_eq d)) $$ Hr
    iexact Hr'
  hout d := by
    rw [Pipeline.ownSems0_none, show (pdats A B R 0 d).Φ (Fin.last _) = (BI.emp : sProp 𝕄) from rfl]
    iintro Hr
    isplitr; · iempintro
    isplitr; · iempintro
    iapply (Entails.of_eq (scopedRest1_eq d).symm)
    iexact Hr
  hexit d := by
    have h0 : (dat d (A d) (B d) (R d)).arrAt 0 cfg1.N = A d := (dat d (A d) (B d) (R d)).arrAt_in 0 rfl _
    have h1 : (dat d (A d) (B d) (R d)).arrAt 1 cfg1.N = B d := (dat d (A d) (B d) (R d)).arrAt_in 1 rfl _
    have h2 := arrAt_2 d (A d) (B d) (R d)
    have e := arrays_pts A B R d cfg1.N
    rw [h0, h1, h2] at e
    iintro ⟨Ha, HO, -, -⟩
    imodintro
    ihave Ha' := (Entails.of_eq e) $$ Ha
    icases Ha' with ⟨H1, H2, H3⟩
    isplitl [H1]; · iexact H1
    isplitl [H2]; · iexact H2
    isplitl [H3]; · iexact H3
    unfold Pipeline.Dat.owesAt Pipeline.owesWithin
    icases HO with ⟨%W, %hW, HO⟩; iexists W; isplitr
    · ipureintro
      intro p hp
      rcases hW hp with h | ⟨w, s, rfl⟩
      · exact h
      · exact Nat.zero_le 8
    iexact HO

end Cert.Proof.SC

end
-- ==== Proof.Main.lean ====
/-
  @main on the TensorCore, and the program's run.  The image is flattened, the SparseCores leave the tiles' counts, the counts are transposed, the
  closing kernel leaves the sorted bins beside their features, and the two columns are cut out.
-/
module

public import proofs.«01_k».proof.Proof.Cores
public import proofs.«01_k».proof.Proof.Finish

@[expose] public section

set_option maxRecDepth 16384

noncomputable section

namespace Cert.Proof.SC

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Hist (partial32)

variable {F : FTy → Type} [FloatOps F]

local notation "𝕄" => MT nD τ sig (HIx 1) (Elt F) ℕ UU ℕ

/-! ## The TensorCore's share of the launch's ghost state -/

/-- The configurations the region's record is stated over. -/
abbrev pinned : (p : Fin 1) → Pipeline.Cfg sig Λ₀ := Pipeline.pin (pcfgs (F := F)) adm

/-- The region's cells are distinct. -/
theorem pinned_inj : Function.Injective (Pipeline.cellOf (nD := nD) (τ := τ) (pinned (F := F))) := cellOf_inj

/-- The region's cells' ghost state and its transfers' tokens on device `d`. -/
abbrev G (d : Dev nD) : sProp 𝕄 := iprop(Pipeline.cellsGhost (pinned (F := F)) EP 0 d ∗ Pipeline.toksInit (pinned (F := F)) EP 0 d)

/-- The launch's ghost element: the handshakes' rounds, the region's rounds. -/
def u₀ : UU := (initOf (K (F := F)).hsCells (K (F := F)).hsToks,
  (initOf (Pipeline.cells (pinned (F := F)) pinned_inj) (Pipeline.launchToks (pinned (F := F)) pinned_inj), 1))

variable (m : (ℓ : Loc nD τ sig) → Buf (Elt F) ℓ) (ρ : Dev nD → PrngReg)

/-! ## The arrays' contents along @main -/

/-- The image. -/
abbrev b0 : DevRef τ sig := Proc.devRef .tc (main_arg0 : Ref sig .tc)
/-- The mask. -/
abbrev b1 : DevRef τ sig := Proc.devRef .tc (main_arg1 : Ref sig .tc)
/-- The colours. -/
abbrev b2 : DevRef τ sig := Proc.devRef .tc (main_arg2 : Ref sig .tc)
/-- The flat image. -/
abbrev w0 : DevRef τ sig := Proc.devRef .tc (main_v0 : Ref sig .tc)
/-- The tiles' counts. -/
abbrev w1 : DevRef τ sig := Proc.devRef .tc (main_v1 : Ref sig .tc)
/-- The tiles' counts transposed. -/
abbrev w2 : DevRef τ sig := Proc.devRef .tc (main_v2 : Ref sig .tc)
/-- The closing kernel's result. -/
abbrev w3 : DevRef τ sig := Proc.devRef .tc (main_v3 : Ref sig .tc)
/-- The result's first column. -/
abbrev w4 : DevRef τ sig := Proc.devRef .tc (main_v4 : Ref sig .tc)
/-- The first column as a row. -/
abbrev w5 : DevRef τ sig := Proc.devRef .tc (main_v5 : Ref sig .tc)
/-- The first result: the order. -/
abbrev w6 : DevRef τ sig := Proc.devRef .tc (main_v6 : Ref sig .tc)
/-- The result's second column. -/
abbrev w7 : DevRef τ sig := Proc.devRef .tc (main_v7 : Ref sig .tc)
/-- The second result: the shares. -/
abbrev w8 : DevRef τ sig := Proc.devRef .tc (main_v8 : Ref sig .tc)

/-- The TensorCore's arrays. -/
abbrev SS : Finset (DevRef τ sig) := {b0, b1, b2, w0, w1, w2, w3, w4, w5, w6, w7, w8}

/-- The image flattened. -/
abbrev opFlat : HloOp τ sig (Elt F) := StableHlo.reshape main_arg0 main_v0 (rfl : (.f32 : EltTy) = .f32) shapeCasts_S3x512x512_S786432
/-- The counts transposed. -/
abbrev opTr : HloOp τ sig (Elt F) :=
  StableHlo.unary main_v1 main_v2 ((transpose S32x32 [1, 0] · transposes_S32x32_S32x32_1_0) : (⟨S32x32, .f32⟩ : BufTy).Contents (Elt F) → (⟨S32x32, .f32⟩ : BufTy).Contents (Elt F))
/-- The first column taken. -/
abbrev opCol0 : HloOp τ sig (Elt F) :=
  StableHlo.unary main_v3 main_v4 ((extractStridedSlice S27x1 ![0, 0] · slices_S32x2_S27x1_0_0) : (⟨S32x2, .f32⟩ : BufTy).Contents (Elt F) → (⟨S27x1, .f32⟩ : BufTy).Contents (Elt F))
/-- It made a row. -/
abbrev opSq0 : HloOp τ sig (Elt F) := StableHlo.reshape main_v4 main_v5 (rfl : (.f32 : EltTy) = .f32) shapeCasts_S27x1_S27
/-- It made integers. -/
abbrev opInt : HloOp τ sig (Elt F) :=
  StableHlo.unary main_v5 main_v6 (fptosi 32 : (⟨S27, .f32⟩ : BufTy).Contents (Elt F) → (⟨S27, .i32⟩ : BufTy).Contents (Elt F))
/-- The second column taken. -/
abbrev opCol1 : HloOp τ sig (Elt F) :=
  StableHlo.unary main_v3 main_v7 ((extractStridedSlice S27x1 ![0, 1] · slices_S32x2_S27x1_0_1) : (⟨S32x2, .f32⟩ : BufTy).Contents (Elt F) → (⟨S27x1, .f32⟩ : BufTy).Contents (Elt F))
/-- It made a row. -/
abbrev opSq1 : HloOp τ sig (Elt F) := StableHlo.reshape main_v7 main_v8 (rfl : (.f32 : EltTy) = .f32) shapeCasts_S27x1_S27

/-- The arrays at the launch. -/
def V0 (d : Dev nD) : Valuation τ sig (Elt F) := fun b => m (d, b)
/-- After the image is flattened. -/
def V1 (d : Dev nD) : Valuation τ sig (Elt F) := (opFlat (F := F)).result (V0 m d)
/-- After the SparseCore call. -/
def V2 (d : Dev nD) : Valuation τ sig (Elt F) := Function.update (V1 m d) w1 (partial32 (V1 m d w0))
/-- After the transposition. -/
def V3 (d : Dev nD) : Valuation τ sig (Elt F) := (opTr (F := F)).result (V2 m d)
/-- After the closing kernel. -/
def V4 (d : Dev nD) : Valuation τ sig (Elt F) := Function.update (V3 m d) w3 (finish (V3 m d w1) (V3 m d w2))
/-- After the first column is taken. -/
def V5 (d : Dev nD) : Valuation τ sig (Elt F) := (opCol0 (F := F)).result (V4 m d)
/-- After it is made a row. -/
def V6 (d : Dev nD) : Valuation τ sig (Elt F) := (opSq0 (F := F)).result (V5 m d)
/-- After it is made integers: the first result. -/
def V7 (d : Dev nD) : Valuation τ sig (Elt F) := (opInt (F := F)).result (V6 m d)
/-- After the second column is taken. -/
def V8 (d : Dev nD) : Valuation τ sig (Elt F) := (opCol1 (F := F)).result (V7 m d)
/-- After it is made a row, the second result: the end. -/
def V9 (d : Dev nD) : Valuation τ sig (Elt F) := (opSq1 (F := F)).result (V8 m d)

/-- What the call takes: the flattened image. -/
abbrev X (d : Dev nD) : Buf (Elt F) (xLoc d) := V1 m d w0
/-- The counts' array before the call. -/
abbrev H (d : Dev nD) : Buf (Elt F) (hLoc d) := V1 m d w1

/-! ## The launch's element dealt -/

/-- The one region's ghost state, per device and per region, is per device. -/
theorem deal : iprop((bigSep Finset.univ fun c : Dev nD => bigSep Finset.univ fun p => (Pipeline.cellsGhost (pinned (F := F)) EP p c : sProp 𝕄))
      ∗ (bigSep Finset.univ fun c : Dev nD => bigSep Finset.univ fun p => (Pipeline.toksInit (pinned (F := F)) EP p c : sProp 𝕄)))
    ⊢ bigSep Finset.univ fun d : Dev nD => G (F := F) d := by
  rw [show (bigSep Finset.univ fun d : Dev nD => G (F := F) d) = iprop((bigSep Finset.univ fun c : Dev nD => Pipeline.cellsGhost (pinned (F := F)) EP 0 c)
    ∗ bigSep Finset.univ fun c : Dev nD => (Pipeline.toksInit (pinned (F := F)) EP 0 c : sProp 𝕄)) from bigSep_sep' _ _ _]
  rw [show (bigSep Finset.univ fun c : Dev nD => bigSep Finset.univ fun p => (Pipeline.cellsGhost (pinned (F := F)) EP p c : sProp 𝕄))
      = bigSep Finset.univ fun c : Dev nD => Pipeline.cellsGhost (pinned (F := F)) EP 0 c from
      bigSep_congr fun c _ => by rw [show (Finset.univ : Finset (Fin 1)) = {0} by decide, bigSep_singleton],
    show (bigSep Finset.univ fun c : Dev nD => bigSep Finset.univ fun p => (Pipeline.toksInit (pinned (F := F)) EP p c : sProp 𝕄))
      = bigSep Finset.univ fun c : Dev nD => Pipeline.toksInit (pinned (F := F)) EP 0 c from
      bigSep_congr fun c _ => by rw [show (Finset.univ : Finset (Fin 1)) = {0} by decide, bigSep_singleton]]

/-- The launch's element gives the handshakes' rounds and each device's share for its region. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (X m) (H m)).x q thr) := by
  unfold u₀
  iintro Hu
  ihave H := (ownU_pair _ _) $$ Hu
  icases H with ⟨HH, HR⟩
  ihave HR' := (own_pair_emb _ _ _) $$ HR
  icases HR' with ⟨HP, -⟩
  have hfund : BI.own (((Emb.inl : Emb UPipe (UPipe × Counters)).trans embR : Emb UPipe 𝕄)
        (initOf (Pipeline.cells (pinned (F := F)) pinned_inj) (Pipeline.launchToks (pinned (F := F)) pinned_inj)))
      ⊢ iprop(|==> ((bigSep Finset.univ fun c : Dev nD => bigSep Finset.univ fun p => Pipeline.cellsGhost (pinned (F := F)) EP p c)
          ∗ (bigSep Finset.univ fun c : Dev nD => bigSep Finset.univ fun p => (Pipeline.toksInit (pinned (F := F)) EP p c : sProp 𝕄)))) :=
    Pipeline.fund_ghost (pinned (F := F)) (EP (F := F)) pinned_inj
  imod hfund $$ HP with ⟨Hc, Ht⟩
  imodintro
  isplitl [HH]; · iexact HH
  isplitl [Hc Ht]
  · iapply (deal (F := F))
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays held -/

/-- The launch's arrays are the TensorCore's arrays held. -/
theorem unscoped_held (d : Dev nD) : (unscopedBufs d (fun b => m ((SparseCore.T d).loc b)) : sProp 𝕄) = held (T d) SS (V0 m d) := by
  unfold unscopedBufs held
  rw [show (Finset.univ.filter fun b : Ref sig .tc => ¬ b.isScoped)
      = {main_arg0, main_arg1, main_arg2, main_v0, main_v1, main_v2, main_v3, main_v4, main_v5, main_v6, main_v7, main_v8} by decide]
  unfold SS
  iterate 11 rw [SparseCore.bigSep_insert' (by decide)]
  iterate 11 rw [SparseCore.bigSep_insert' (by decide)]
  rw [bigSep_singleton, bigSep_singleton]
  rfl

/-- The call's two arrays. -/
abbrev SC2 : Finset (DevRef τ sig) := {w0, w1}
/-- The region's three arrays. -/
abbrev SR : Finset (DevRef τ sig) := {w1, w2, w3}

/-- The call's two arrays held, one by one. -/
theorem held_SC2 (d : Dev nD) (W : Valuation τ sig (Elt F)) :
    (held (T d) SC2 W : sProp 𝕄) = iprop((xLoc d ↦{fullShare} W w0) ∗ hLoc d ↦{fullShare} W w1) := by
  unfold held SC2
  rw [SparseCore.bigSep_insert' (by decide), bigSep_singleton]

/-- The region's three arrays held, one by one. -/
theorem held_SR (d : Dev nD) (W : Valuation τ sig (Elt F)) :
    (held (T d) SR W : sProp 𝕄) = iprop(((d : Thread nD τ).loc main_v1 ↦{fullShare} W w1) ∗ ((d : Thread nD τ).loc main_v2 ↦{fullShare} W w2)
      ∗ (d : Thread nD τ).loc main_v3 ↦{fullShare} W w3) := by
  unfold held SR
  rw [SparseCore.bigSep_insert' (by decide), SparseCore.bigSep_insert' (by decide), bigSep_singleton]

/-- Off one array, an update of it is not seen. -/
theorem held_update (d : Dev nD) (Q : Finset (DevRef τ sig)) (W : Valuation τ sig (Elt F)) (b : DevRef τ sig) (f : b.ty.Contents (Elt F)) (hb : b ∉ Q) :
    (held (T d) Q (Function.update W b f) : sProp 𝕄) = held (T d) Q W :=
  held_congr _ fun b' hb' => Function.update_of_ne (fun e => by subst e; exact hb hb') _ _

/-- Before the call: its two arrays and the rest. -/
theorem held_V1 (d : Dev nD) : (held (T d) SS (V1 m d) : sProp 𝕄)
    = iprop(((xLoc d ↦{fullShare} X m d) ∗ hLoc d ↦{fullShare} H m d) ∗ held (T d) (SS \ SC2) (V1 m d)) := by
  rw [held_sub_split (T d) (show SC2 ⊆ SS by decide), held_SC2]

/-- After the call: its two arrays, the counts counted, and the rest. -/
theorem held_V2 (d : Dev nD) : (held (T d) SS (V2 m d) : sProp 𝕄)
    = iprop(((xLoc d ↦{fullShare} X m d) ∗ hLoc d ↦{fullShare} (partial32 (X m d))) ∗ held (T d) (SS \ SC2) (V1 m d)) := by
  rw [held_sub_split (T d) (show SC2 ⊆ SS by decide), held_SC2]
  unfold V2
  rw [held_update d _ _ _ _ (by decide), Function.update_self, Function.update_of_ne (show w0 ≠ w1 by decide)]

/-- Before the closing kernel: its three arrays and the rest. -/
theorem held_V3 (d : Dev nD) : (held (T d) SS (V3 m d) : sProp 𝕄)
    = iprop((((d : Thread nD τ).loc main_v1 ↦{fullShare} V3 m d w1) ∗ ((d : Thread nD τ).loc main_v2 ↦{fullShare} V3 m d w2)
      ∗ (d : Thread nD τ).loc main_v3 ↦{fullShare} V3 m d w3) ∗ held (T d) (SS \ SR) (V3 m d)) := by
  rw [held_sub_split (T d) (show SR ⊆ SS by decide), held_SR]

/-- After the closing kernel: its three arrays, the result computed, and the rest. -/
theorem held_V4 (d : Dev nD) : (held (T d) SS (V4 m d) : sProp 𝕄)
    = iprop((((d : Thread nD τ).loc main_v1 ↦{fullShare} V3 m d w1) ∗ ((d : Thread nD τ).loc main_v2 ↦{fullShare} V3 m d w2)
      ∗ (d : Thread nD τ).loc main_v3 ↦{fullShare} finish (V3 m d w1) (V3 m d w2)) ∗ held (T d) (SS \ SR) (V3 m d)) := by
  rw [held_sub_split (T d) (show SR ⊆ SS by decide), held_SR]
  unfold V4
  rw [held_update d _ _ _ _ (by decide), Function.update_self, Function.update_of_ne (show w1 ≠ w3 by decide), Function.update_of_ne (show w2 ≠ w3 by decide)]

/-! ## The region inside @main -/

/-- Between the launch's call and its end the TensorCore's handshake state holds its tallies, which the region borrows. -/
theorem tcSt_owes (d : Dev nD) :
    ((K (F := F)).tcSt EH d 1 : sProp 𝕄) ⊢ iprop(owesTc (F := F) d ∗ (owesTc (F := F) d -∗ (K (F := F)).tcSt EH d 1)) := by
  unfold SparseCore.Cfg.tcSt
  rw [(K (F := F)).Otc_end d (le_refl 1)]
  iintro ⟨HO, Hr⟩
  isplitl [HO]; · iexact HO
  iintro HO
  isplitl [HO]; · iexact HO
  iexact Hr

/-- The region's call, as @main spells it. -/
theorem wp_region [∀ e, Nonempty (Elt F e)] (A B : Dev nD → Vec F S32x32 .f32) (R : Dev nD → Vec F S32x2 .f32) (d : Dev nD) (Φ : PUnit → sProp 𝕄) :
    iprop((iprop(boundary (T d) ∗ ((d : Thread nD τ).loc main_v1 ↦{fullShare} A d) ∗ ((d : Thread nD τ).loc main_v2 ↦{fullShare} B d)
          ∗ ((d : Thread nD τ).loc main_v3 ↦{fullShare} finish (A d) (B d)) ∗ owesTc (F := F) d) -∗ Φ ⟨⟩)
        ∗ boundary (T d) ∗ (iprop(((d : Thread nD τ).loc main_v1 ↦{fullShare} A d) ∗ ((d : Thread nD τ).loc main_v2 ↦{fullShare} B d)
          ∗ ((d : Thread nD τ).loc main_v3 ↦{fullShare} R d) ∗ owesTc (F := F) d) : sProp 𝕄) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) adm (pdats A B R) none pinned_inj EP defs₀ 𝒱₀ (K (F := F)).L (K (F := F)).lev (reg A B R) d none
    (fun u hu => nomatch hu) Prog.ret Φ
  have h3 := h.trans ((K (F := F)).wp_liftProg (D (F := F)) 𝒱 (SparseCore.T d) Set.univ none (.op (.customCall (Pipeline.entry 0) ()) Prog.ret) Φ)
  have e : (SparseCore.liftProg (.op (.customCall (Pipeline.entry 0) ()) Prog.ret) : Prog (TpuEff nD τ sig (Elt F) (SparseCore.Sig (Pipeline.Sig Λ₀ (Fin 1) fun p => (pcfgs (F := F) p).Adm) 1) (SparseCore.T d).2) PUnit)
      = Prog.lift (.customCall (SparseCore.inner (Pipeline.entry 0)) ()) := rfl
  rw [e] at h3
  refine BIBase.Entails.trans (sep_mono (wand_mono .rfl ?_) .rfl) h3
  rw [wp_ret]
  iintro H; imodintro; iexact H

/-! ## @main -/

/-- What @main leaves the claim: every array at its contents at the end. -/
abbrev FIN (d : Dev nD) : sProp 𝕄 := held (T d) SS (V9 m d)

/-- @main, from the launch's share to every array at its contents at the end. -/
theorem hmain [∀ e, Nonempty (Elt F e)] (κ : GSem nD τ sig → ℕ) (d : Dev nD) :
    iprop((K (F := F)).ctx EH (P (X m) (H m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  -- the image flattened
  iapply (wp_hlo_within 𝒱 (SparseCore.T d) none Set.univ (op := opFlat) (S := SS) (show ({b0, w0} : Finset (DevRef τ sig)) ⊆ SS by decide) (V := V0 m d)) $$ [Hb Hheld]
  · isplitl [Hb]; · iexact Hb
    iexact Hheld
  iintro ⟨Hb, Hheld⟩
  rw [wp_ret]; imodintro
  ihave Hh := (Entails.of_eq (show (held (T d) SS ((opFlat (F := F)).result (V0 m d)) : sProp 𝕄) = _ from held_V1 m d)) $$ Hheld
  icases Hh with ⟨⟨Hx, Hh⟩, Hrest⟩
  -- the SparseCores' call
  iapply ((K (F := F)).wp_run (D (F := F)) 𝒱 (EH := EH) (P := P (X m) (H m)) κ d 0) $$ [Hst Hx Hh Hb Hrest Hts HG]
  isplitr; · iexact Hctx
  isplitl [Hst]; · iexact Hst
  isplitl [Hx Hh]
  · rw [st0_eq]
    isplitl [Hx]; · iexact Hx
    iexact Hh
  iintro ⟨Hst, Hdn⟩
  ihave Hdn' := (Entails.of_eq (dn0_eq (X m) (H m) d)) $$ Hdn
  icases Hdn' with ⟨Hx, Hh⟩
  -- the counts transposed
  iapply (wp_hlo_within 𝒱 (SparseCore.T d) none Set.univ (op := opTr) (S := SS) (show ({w1, w2} : Finset (DevRef τ sig)) ⊆ SS by decide) (V := V2 m d)) $$ [Hb Hx Hh Hrest]
  · isplitl [Hb]; · iexact Hb
    rw [held_V2]
    isplitl [Hx Hh]
    · isplitl [Hx]; · iexact Hx
      iexact Hh
    iexact Hrest
  iintro ⟨Hb, Hheld⟩
  rw [wp_ret]; imodintro
  ihave Hh := (Entails.of_eq (show (held (T d) SS ((opTr (F := F)).result (V2 m d)) : sProp 𝕄) = _ from held_V3 m d)) $$ Hheld
  icases Hh with ⟨⟨H1, H2, H3⟩, Hrest⟩
  -- the closing kernel
  ihave Hst' := (show ((K (F := F)).tcSt EH d ((0 : Fin 1).val + 1) : sProp 𝕄) ⊢ _ from tcSt_owes (F := F) d) $$ Hst
  icases Hst' with ⟨HO, Hback⟩
  ihave Hlev := (SparseCore.Cfg.ctx_levAts κ) $$ Hctx
  iapply (wp_region (fun d => V3 m d w1) (fun d => V3 m d w2) (fun d => V3 m d w3) d)
  isplitr [Hb H1 H2 H3 HO Hlev HG]; swap
  · isplitl [Hb]; · iexact Hb
    isplitl [H1 H2 H3 HO]
    · isplitl [H1]; · iexact H1
      isplitl [H2]; · iexact H2
      isplitl [H3]; · iexact H3
      iexact HO
    isplitl [Hlev]; · iexact Hlev
    iexact HG
  iintro ⟨Hb, H1, H2, H3, HO⟩
  ispecialize Hback $$ HO
  -- the two columns
  iapply (wp_hlo_within 𝒱 (SparseCore.T d) none Set.univ (op := opCol0) (S := SS) (show ({w3, w4} : Finset (DevRef τ sig)) ⊆ SS by decide) (V := V4 m d)) $$ [Hb H1 H2 H3 Hrest]
  · isplitl [Hb]; · iexact Hb
    rw [held_V4]
    isplitl [H1 H2 H3]
    · isplitl [H1]; · iexact H1
      isplitl [H2]; · iexact H2
      iexact H3
    iexact Hrest
  iintro ⟨Hb, Hheld⟩
  rw [wp_ret]; imodintro
  iapply (wp_hlo_within 𝒱 (SparseCore.T d) none Set.univ (op := opSq0) (S := SS) (show ({w4, w5} : Finset (DevRef τ sig)) ⊆ SS by decide) (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := opInt) (S := SS) (show ({w5, w6} : Finset (DevRef τ sig)) ⊆ SS by decide) (V := V6 m d)) $$ [Hb Hheld]
  · isplitl [Hb]; · iexact Hb
    iexact Hheld
  iintro ⟨Hb, Hheld⟩
  rw [wp_ret]; imodintro
  iapply (wp_hlo_within 𝒱 (SparseCore.T d) none Set.univ (op := opCol1) (S := SS) (show ({w3, w7} : Finset (DevRef τ sig)) ⊆ SS by decide) (V := V7 m d)) $$ [Hb Hheld]
  · isplitl [Hb]; · iexact Hb
    iexact Hheld
  iintro ⟨Hb, Hheld⟩
  rw [wp_ret]; imodintro
  iapply (wp_hlo_within 𝒱 (SparseCore.T d) none Set.univ (op := opSq1) (S := SS) (show ({w7, w8} : Finset (DevRef τ sig)) ⊆ SS by decide) (V := V8 m d)) $$ [Hb Hheld]
  · isplitl [Hb]; · iexact Hb
    iexact Hheld
  iintro ⟨Hb, Hheld⟩
  rw [wp_ret]; imodintro; imodintro
  isplitl [Hback]; · iexact Hback
  isplitl [Hheld]; · iexact Hheld
  isplitl [Hb] <;> iassumption

/-! ## The run -/

/-- What a final state holds of device `d`: every array at its contents at the end. -/
def fq (d : Dev nD) (s' : Phys nD τ sig (Elt F)) : Prop := ∀ b ∈ SS, s'.mem.mem (d, b) = V9 m d b

/-- What @main leaves determines the final memory. -/
theorem hfin (d : Dev nD) (s' : Phys nD τ sig (Elt F)) : iprop(FIN m d ∗ SI s') ⊢ (⌜fq m d s'⌝ : sProp 𝕄) := by
  have key : ∀ b ∈ SS, iprop(FIN m d ∗ SI s') ⊢ (⌜s'.mem.mem (d, b) = V9 m d b⌝ : sProp 𝕄) := fun b hb => by
    unfold FIN held
    rw [SparseCore.bigSep_erase' hb]
    iintro ⟨⟨Hx, -⟩, HSI⟩
    ihave H := (SI_pointsTo_agree (st := s') (ℓ := (d, b)) (I := Finset.univ) (q := fullShare) (f := V9 m d b)) $$ [HSI Hx]
    · isplitl [HSI] <;> iassumption
    icases H with %hx
    ipureintro; exact funext fun i => hx i (Finset.mem_univ i)
  exact ((Laws.forall_intro fun b => (Laws.forall_intro fun hb => key b hb).trans Laws.pure_forall.2).trans Laws.pure_forall.2)

/-- A run's end: every array of every device at its contents at the end, every semaphore at zero. -/
def QC : PUnit × MemSt nD τ sig (Elt F) → Prop := fun r => (∀ d : Dev nD, ∀ b ∈ SS, r.2.mem (d, b) = V9 m d b) ∧ r.2.sem = fun _ => 0

/-- Every weakly fair run of the program ends, with every array at its contents at the end and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m) (H m)) (A := ∅) facts v₀
    (fun q hq => match q with | 0 => nomatch hq)
    (fun q _ => match q with | 0 => tileObl (X m) (H m))
    (fun q _ => match q with | 0 => SparseCore.Cfg.VecSplit.of_plain (vecSplit (X m) (H m)))
    m ρ main (fun d => G (F := F) d) (FIN m) (u₀ (F := F)) (sep_elim_left.trans (hu₀ m)) (hmain m ρ) (fq m) (hfin m) (QC m) (fun _ h hz => ⟨h, hz⟩)

end Cert.Proof.SC

end
-- ==== Proof.Twin.lean ====
/-
  The kernel as printed and its idealization are one text: the same functions, the same definitions, the same threads, at
  any float values.
-/
module
public import proofs.«01_k».proof.Defs
public import proofs.«01_k».proof.Proof.Gen.Kernel
public import proofs.«01_k».proof.Proof.Gen.KernelIdeal
@[expose] public section
set_option maxRecDepth 16384
noncomputable section
namespace Cert.Proof.Twin
open Idealize.ShloMosaic
attribute [local instance] Cert.Kernel.Gen.facts Cert.KernelIdeal.Gen.facts
variable {F : FTy → Type} [FloatOps F]

/-- The two printed programs have the same kernel functions, one by one. -/
theorem kernels_eq : Cert.Kernel.defs₀ (F := F) = Cert.KernelIdeal.defs₀ (F := F) := by
  funext p l a
  match p, l, a with
  | .tc, ⟨0, _⟩, _ => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

/-- The two printed programs have the same definitions. -/
theorem defs_eq : Cert.Kernel.defs (F := F) = Cert.KernelIdeal.defs (F := F) := by
  unfold Cert.Kernel.defs Cert.KernelIdeal.defs
  exact congrArg (fun e => Cert.KernelIdeal.sc.defs (Pipeline.defs Cert.KernelIdeal.pcfgs e)) kernels_eq

/-- The two printed programs start the same threads. -/
theorem threads_eq : Cert.Kernel.threads (F := F) = Cert.KernelIdeal.threads (F := F) := rfl

end Cert.Proof.Twin
end
-- ==== Proof.Frames.lean ====
/- The two kernel programs' frames: at every run's end the arguments are as launched and every semaphore reads zero.
   The idealized program's run (Main.lean) gives both; the device program is the idealized one's text over the device's
   float values (Twin.lean), so its frame is the same run at those values. -/
module

public import proofs.«01_k».proof.Defs
public import proofs.«01_k».proof.Proof.Main
public import proofs.«01_k».proof.Proof.Twin
public import proofs.«01_k».proof.Proof.Gen.Kernel

@[expose] public section

set_option maxRecDepth 16384

noncomputable section

namespace Cert.Proof.SC

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- An array no operation, call or region writes holds at the end what it held at the launch. -/
theorem V9_keep (d : Dev nD) (r : Ref sig .tc) (h0 : r ≠ main_v0) (h1 : r ≠ main_v1) (h2 : r ≠ main_v2) (h3 : r ≠ main_v3) (h4 : r ≠ main_v4)
    (h5 : r ≠ main_v5) (h6 : r ≠ main_v6) (h7 : r ≠ main_v7) (h8 : r ≠ main_v8) :
    V9 m d (Proc.devRef .tc r) = m (d, Proc.devRef .tc r) := by
  unfold V9; rw [reshape_result_ne _ _ _ _ _ _ _ h8]
  unfold V8; rw [unary_result_ne _ _ _ _ _ _ h7]
  unfold V7; rw [unary_result_ne _ _ _ _ _ _ h6]
  unfold V6; rw [reshape_result_ne _ _ _ _ _ _ _ h5]
  unfold V5; rw [unary_result_ne _ _ _ _ _ _ h4]
  unfold V4; rw [Function.update_of_ne (devRef_ne_of_ne h3)]
  unfold V3; rw [unary_result_ne _ _ _ _ _ _ h2]
  unfold V2; rw [Function.update_of_ne (devRef_ne_of_ne h1)]
  unfold V1; rw [reshape_result_ne _ _ _ _ _ _ _ h0]
  rfl

/-- The image ends as it was launched. -/
theorem V9_b0 (d : Dev nD) : V9 m d b0 = m (d, b0) :=
  V9_keep m d main_arg0 (by decide) (by decide) (by decide) (by decide) (by decide) (by decide) (by decide) (by decide) (by decide)
/-- The mask ends as it was launched. -/
theorem V9_b1 (d : Dev nD) : V9 m d b1 = m (d, b1) :=
  V9_keep m d main_arg1 (by decide) (by decide) (by decide) (by decide) (by decide) (by decide) (by decide) (by decide) (by decide)
/-- The colours end as they were launched. -/
theorem V9_b2 (d : Dev nD) : V9 m d b2 = m (d, b2) :=
  V9_keep m d main_arg2 (by decide) (by decide) (by decide) (by decide) (by decide) (by decide) (by decide) (by decide) (by decide)

/-- The run with its arguments' ends read: unchanged; and every semaphore at zero. -/
theorem run_frame [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run (Cert.KernelIdeal.defs (F := F)) _ _).mono
    (fun _ h => ⟨fun c => ⟨(h.1 c b0 (by decide)).trans (V9_b0 m c), (h.1 c b1 (by decide)).trans (V9_b1 m c), (h.1 c b2 (by decide)).trans (V9_b2 m c)⟩, h.2⟩)
    (run_main m ρ)

end Cert.Proof.SC

namespace Cert.Proof

open Idealize.ShloMosaic Idealize.ShloMosaic.TcCoe Idealize.SL.Sem

/-- The idealized program's frame. -/
theorem frame_ideal : Cert.quiescent_KernelIdeal := fun m g _ => SC.run_frame (F := Ideal) m g

/-- The device program's frame: its text is the idealized program's. -/
theorem frame_device : Cert.quiescent_Kernel := fun m g _ => by
  have h := SC.run_frame (F := Bits) m g
  rw [← Twin.defs_eq, ← Twin.threads_eq] at h
  exact h

end Cert.Proof

end
-- ==== Proof.Count.lean ====
/-
  The tiles' counts at the extended reals, where a one added is a one counted: each of the 32 rows of partial counts holds,
  bin by bin, the number of its tile's 8192 pixels in that bin, and the rows' sum the number of the image's 262144 pixels.
-/
module

public import proofs.«01_k».proof.Proof.Hist
public import Idealize.ShloMosaic.Lib.IdealHost
public import Idealize.ShloMosaic.Lib.Pointwise

@[expose] public section

set_option maxRecDepth 16384

noncomputable section

namespace Cert.Proof.Count

open Cert.KernelIdeal Cert.KernelIdeal.Gen Cert.Proof.Hist
open Idealize.ShloMosaic

/-! ## Sums of naturals -/

/-- A sum over `a · m` numbers is the sum over `a` blocks of `m`. -/
theorem sum_blocks (f : ℕ → ℕ) (m a : ℕ) :
    ∑ i ∈ Finset.range a, ∑ j ∈ Finset.range m, f (m * i + j) = ∑ p ∈ Finset.range (m * a), f p := by
  induction a with
  | zero => simp
  | succ a ih => rw [Finset.sum_range_succ, ih, Nat.mul_succ, Finset.sum_range_add]

/-- A fold that starts at the first of `m + 1` terms and adds the others in turn is the sum of them all. -/
theorem foldl_terms (g : ℕ → ℕ) (m : ℕ) :
    (List.range m).foldl (fun (a : EReal) l => a + ((g (l + 1) : ℕ) : EReal)) ((g 0 : ℕ) : EReal)
      = ((∑ l ∈ Finset.range (m + 1), g l : ℕ) : EReal) := by
  induction m with
  | zero => simp
  | succ m ih =>
    rw [List.range_succ, List.foldl_append, ih, Finset.sum_range_succ _ (m + 1)]
    simp only [List.foldl_cons, List.foldl_nil, Nat.cast_add]

/-! ## One trip -/

/-- What a scattered store of ones with addition leaves at a word: what was there and one for each lane whose word it is. -/
theorem foldl_ones (addr : Fin 16 → ℕ) (L : List (Fin 16)) (f : Vec Ideal S512 .f32) (c : S512.Idx → ℕ)
    (hf : ∀ j, f j = ((c j : ℕ) : EReal)) (step : Vec Ideal S512 .f32 → Fin 16 → Vec Ideal S512 .f32)
    (hs : ∀ g k j, step g k j = if (j 0).val = addr k then (g j : EReal) + 1 else g j) (j : S512.Idx) :
    L.foldl step f j = ((c j + (L.map fun k => if (j 0).val = addr k then 1 else 0).sum : ℕ) : EReal) := by
  induction L generalizing f c with
  | nil => simp [hf]
  | cons k L ih =>
    rw [List.foldl_cons, ih (step f k) (fun j => c j + if (j 0).val = addr k then 1 else 0) (fun j => by
      rw [hs, hf]; split <;> simp)]
    rw [List.map_cons, List.sum_cons, Nat.add_assoc]

/-- The histogram after sixteen pixels more, word by word. -/
theorem scat_eq (f : Vec Ideal S512 .f32) (c : S512.Idx → ℕ) (hf : ∀ j, f j = ((c j : ℕ) : EReal))
    (r g b : Vec Ideal S16 .f32) (j : S512.Idx) :
    scat f r g b j = ((c j + ∑ k : Fin 16, (if (j 0).val = 32 * k.val + bin (F := Ideal) (r (ix1 k)) (g (ix1 k)) (b (ix1 k)) then 1 else 0) : ℕ) : EReal) := by
  unfold scat storeIdx
  refine (foldl_ones (fun k => 32 * k.val + bin (F := Ideal) (r (ix1 k)) (g (ix1 k)) (b (ix1 k))) _ f c hf _ ?_ j).trans ?_
  · intro h k j
    have e : (Shape.ofLane k : S16.Idx) = ix1 k := by funext a; obtain rfl : a = 0 := Subsingleton.elim _ _; rfl
    have hk := pay3_toNat (F := Ideal) r g b (ix1 k)
    have e1 : (k0_pay2 (F := Ideal)) (ix1 k) = (1 : EReal) := Ideal.ofBits_one_f32
    have e2 : ∀ a : Fin S512.rank, (idxAt (s := S512) (t := S16) ![k0_pay3 r g b] (k0_idx1_inb _ (chk_bins r g b)) (Shape.ofLane k : S16.Idx) a).val
        = 32 * k.val + bin (F := Ideal) (r (ix1 k)) (g (ix1 k)) (b (ix1 k)) := fun a => by
      obtain rfl : a = (0 : Fin 1) := Subsingleton.elim (α := Fin 1) _ _
      refine Eq.trans ?_ hk
      rw [← e]; rfl
    refine (congrFun (if_pos (rfl : (1#1 : BitVec 1) = 1)) j).trans ?_
    by_cases hj : (j 0).val = 32 * k.val + bin (F := Ideal) (r (ix1 k)) (g (ix1 k)) (b (ix1 k))
    · rw [if_pos hj]
      have hi : idxAt (s := S512) (t := S16) ![k0_pay3 r g b] (k0_idx1_inb _ (chk_bins r g b)) (Shape.ofLane k : S16.Idx) = j := by
        funext a; refine Fin.ext ?_; rw [e2]; obtain rfl : a = (0 : Fin 1) := Subsingleton.elim (α := Fin 1) _ _; exact hj.symm
      refine (if_pos (fun a => by rw [hi])).trans ?_
      rw [if_pos rfl, hi, e, e1]; rfl
    · rw [if_neg hj]
      exact if_neg (fun h => hj ((h 0).trans (e2 0)))
  · exact congrArg (fun t : ℕ => ((c j + t : ℕ) : EReal)) (Fin.sum_univ_def _).symm

/-! ## A tile's histogram, its rows added up -/

/-- The bin of the pixel lane `k` counts in trip `t`. -/
def binAt (r g b : Vec Ideal S8192 .f32) (t : ℕ) (k : Fin 16) : ℕ :=
  bin (F := Ideal) (r (atSlab (16 * t + k.val))) (g (atSlab (16 * t + k.val))) (b (atSlab (16 * t + k.val)))

/-- The histogram after `n` trips, word by word. -/
theorem histAt_eq (r g b : Vec Ideal S8192 .f32) (n : ℕ) (j : S512.Idx) :
    histAt r g b n j
      = ((∑ t ∈ Finset.range n, ∑ k : Fin 16, (if (j 0).val = 32 * k.val + binAt r g b t k then 1 else 0) : ℕ) : EReal) := by
  induction n generalizing j with
  | zero => rw [Finset.range_zero, Finset.sum_empty, Nat.cast_zero]; exact Ideal.ofBits_zero_f32
  | succ n ih =>
    rw [Finset.sum_range_succ]
    exact scat_eq _ _ ih _ _ _ j

/-- Of the sixteen rows' words for bin `q`, one is lane `k`'s pixel's just when its bin is `q`. -/
theorem rows_hit (q : ℕ) (hq : q < 32) (k : Fin 16) (v : ℕ) (hv : v < 27) :
    (∑ l ∈ Finset.range 16, if (32 * l + q) % 512 = 32 * k.val + v then 1 else 0) = if v = q then 1 else 0 := by
  have hk := k.isLt
  rw [Finset.sum_eq_single k.val]
  · by_cases h : v = q
    · rw [if_pos h, if_pos (by omega)]
    · rw [if_neg h, if_neg (by omega)]
  · intro l hl hne
    have := Finset.mem_range.mp hl
    exact if_neg (by omega)
  · intro h; exact absurd (Finset.mem_range.mpr hk) h

/-- The rows of the histogram after `n` trips, added up: how many of the pixels counted are in bin `q`. -/
theorem rowOf_eq (r g b : Vec Ideal S8192 .f32) (n q : ℕ) (hq : q < 32) :
    rowOf (histAt r g b n) (atBin q)
      = ((∑ t ∈ Finset.range n, ∑ k : Fin 16, (if binAt r g b t k = q then 1 else 0) : ℕ) : EReal) := by
  have e : rowOf (histAt r g b n) (atBin q) = ((∑ l ∈ Finset.range (15 + 1),
      ∑ t ∈ Finset.range n, ∑ k : Fin 16, (if (32 * l + q) % 512 = 32 * k.val + binAt r g b t k then 1 else 0) : ℕ) : EReal) := by
    rw [← foldl_terms]
    unfold rowOf
    have hw : ∀ l, histAt r g b n (atHist (32 * l + q))
        = ((∑ t ∈ Finset.range n, ∑ k : Fin 16, (if (32 * l + q) % 512 = 32 * k.val + binAt r g b t k then 1 else 0) : ℕ) : EReal) :=
      fun l => histAt_eq r g b n _
    have hb : ((atBin q) 0).val = q := Nat.mod_eq_of_lt hq
    rw [hb]
    simp only [hw, Ideal.addf_def]
    rw [← hw 0, Nat.mul_zero, Nat.zero_add]
  rw [e]
  refine congrArg (fun n : ℕ => (n : EReal)) ?_
  rw [Finset.sum_comm]
  refine Finset.sum_congr rfl fun t _ => ?_
  rw [Finset.sum_comm]
  exact Finset.sum_congr rfl fun k _ => rows_hit q hq k _ (bin_lt (F := Ideal) _ _ _)

/-! ## The image's pixels -/

/-- The bin of pixel `p` of the flat image. -/
def pix (x : Vec Ideal S786432 .f32) (p : ℕ) : ℕ :=
  bin (F := Ideal) (x (atImg p)) (x (atImg (262144 + p))) (x (atImg (524288 + p)))

/-- How many of the image's pixels are in bin `q`. -/
def num (x : Vec Ideal S786432 .f32) (q : ℕ) : ℕ := ∑ p ∈ Finset.range 262144, if pix x p = q then 1 else 0

/-- A tile's row of counts. -/
theorem tileRow_eq (x : Vec Ideal S786432 .f32) (w q : ℕ) (hq : q < 32) :
    tileRow x w (atBin q) = ((∑ p ∈ Finset.range 8192, if pix x (8192 * w + p) = q then 1 else 0 : ℕ) : EReal) := by
  unfold tileRow
  rw [rowOf_eq _ _ _ _ _ hq]
  refine congrArg (fun n : ℕ => (n : EReal)) ?_
  rw [show (8192 : ℕ) = 16 * 512 from rfl, ← sum_blocks]
  refine Finset.sum_congr rfl fun t ht => ?_
  rw [Finset.sum_range]
  refine Finset.sum_congr rfl fun k _ => ?_
  have ht := Finset.mem_range.mp ht
  have hk := k.isLt
  have e : (atSlab (16 * t + k.val) 0).val = 16 * t + k.val := Nat.mod_eq_of_lt (by omega)
  have e' : binAt (slab x 0 w) (slab x 1 w) (slab x 2 w) t k = pix x (16 * 512 * w + (16 * t + k.val)) := by
    unfold binAt pix slab
    rw [e]
    congr 3 <;> omega
  rw [e']

/-- The rows' sum: the number of the image's pixels in bin `q`. -/
theorem sum_rows (x : Vec Ideal S786432 .f32) (q : Fin 32) :
    ∑ w : Fin 32, partial32 x (ix2 w q) = ((num x q.val : ℕ) : EReal) := by
  have e : ∀ w : Fin 32, partial32 x (ix2 w q)
      = ((∑ p ∈ Finset.range 8192, if pix x (8192 * w.val + p) = q.val then 1 else 0 : ℕ) : EReal) :=
    fun w => tileRow_eq x w.val q.val q.isLt
  unfold num
  rw [show (262144 : ℕ) = 8192 * 32 from rfl, ← sum_blocks, Finset.sum_range, Nat.cast_sum]
  exact Finset.sum_congr rfl fun w _ => e w

/-- No pixel is in a bin from 27 on. -/
theorem num_pad (x : Vec Ideal S786432 .f32) (q : ℕ) (hq : 27 ≤ q) : num x q = 0 := by
  refine Finset.sum_eq_zero fun p _ => if_neg ?_
  have := bin_lt (F := Ideal) (x (atImg p)) (x (atImg (262144 + p))) (x (atImg (524288 + p)))
  unfold pix; omega

/-- Every pixel is in one of the 27 bins. -/
theorem sum_num (x : Vec Ideal S786432 .f32) : ∑ q : Fin 27, num x q.val = 262144 := by
  unfold num
  rw [Finset.sum_comm]
  have h : ∀ p ∈ Finset.range 262144, (∑ q : Fin 27, if pix x p = q.val then 1 else 0) = 1 := fun p _ => by
    have hp : pix x p < 27 := bin_lt (F := Ideal) _ _ _
    rw [Finset.sum_eq_single ⟨pix x p, hp⟩]
    · simp
    · intro q _ hq; exact if_neg fun h => hq (Fin.ext h.symm)
    · intro h; exact absurd (Finset.mem_univ _) h
  rw [Finset.sum_congr rfl h]
  simp

end Cert.Proof.Count

end
-- ==== Proof.Order.lean ====
/-
  Ordering by rank. Positions `0 … n - 1` carry values of a linear order; a position is ahead of another when its value is
  greater, or the values agree and its number is smaller. A position's rank is the number of positions ahead of it. The
  stable sort by falling value puts at place `i` exactly the position of rank `i`, and appending positions whose value is
  below all others leaves the ranks of the first ones as they were and ranks the new ones after them.
-/
module

public import Idealize.ShloMosaic.Lib.SortFacts
public import Mathlib.Data.Fintype.Card
public import Mathlib.Data.Fintype.EquivFin
public import Mathlib.Order.Fin.Basic

@[expose] public section

noncomputable section

namespace Cert.Proof.Order

open Idealize.ShloMosaic

variable {α : Type} [LinearOrder α] {n : ℕ}

/-- Position `j` is ahead of position `k`: a greater value, or the same value and a smaller number. -/
def Ahead (s : Fin n → α) (j k : Fin n) : Prop := s k < s j ∨ (s j = s k ∧ j < k)

/-- Whether a position is ahead of another can be decided. -/
instance (s : Fin n → α) (j k : Fin n) : Decidable (Ahead s j k) := by unfold Ahead; infer_instance

/-- How many positions are ahead of position `k`. -/
def rank (s : Fin n → α) (k : Fin n) : ℕ := (Finset.univ.filter fun j => Ahead s j k).card

/-- No position is ahead of itself. -/
theorem ahead_irrefl (s : Fin n → α) (k : Fin n) : ¬ Ahead s k k := by
  rintro (h | ⟨-, h⟩) <;> exact lt_irrefl _ h

/-- What is ahead of a position that is ahead of a third is ahead of the third. -/
theorem ahead_trans {s : Fin n → α} {i j k : Fin n} (h : Ahead s i j) (h' : Ahead s j k) : Ahead s i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two different positions one is ahead of the other. -/
theorem ahead_total (s : Fin n → α) {j k : Fin n} (h : j ≠ k) : Ahead s j k ∨ Ahead s k j := by
  rcases lt_trichotomy (s j) (s k) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- A position ahead of another has a smaller rank. -/
theorem rank_lt_rank {s : Fin n → α} {j k : Fin n} (h : Ahead s j k) : rank s j < rank s k := by
  refine Finset.card_lt_card ⟨fun i hi => ?_, fun hs => ?_⟩
  · rw [Finset.mem_filter] at hi ⊢; exact ⟨hi.1, ahead_trans hi.2 h⟩
  · have : j ∈ Finset.univ.filter fun i => Ahead s i j := hs (Finset.mem_filter.mpr ⟨Finset.mem_univ _, h⟩)
    exact ahead_irrefl s j (Finset.mem_filter.mp this).2

/-- Being ahead is having the smaller rank. -/
theorem ahead_iff_rank (s : Fin n → α) (j k : Fin n) : Ahead s j k ↔ rank s j < rank s k := by
  refine ⟨rank_lt_rank, fun h => ?_⟩
  by_cases e : j = k
  · subst e; exact absurd h (lt_irrefl _)
  · rcases ahead_total s e with h' | h'
    · exact h'
    · exact absurd (rank_lt_rank h') (not_lt.mpr h.le)

/-- Different positions have different ranks. -/
theorem rank_injective (s : Fin n → α) : Function.Injective (rank s) := by
  intro j k h
  by_contra e
  rcases ahead_total s e with h' | h'
  · exact absurd (rank_lt_rank h') (by omega)
  · exact absurd (rank_lt_rank h') (by omega)

/-- Every rank is below the number of positions. -/
theorem rank_lt (s : Fin n → α) (k : Fin n) : rank s k < n := by
  have h : (Finset.univ.filter fun j => Ahead s j k).card < (Finset.univ : Finset (Fin n)).card :=
    Finset.card_lt_card ⟨Finset.filter_subset _ _, fun hs =>
      ahead_irrefl s k (Finset.mem_filter.mp (hs (Finset.mem_univ k))).2⟩
  simpa [rank] using h

/-- The positions by rank, a permutation. -/
def byRank (s : Fin n → α) : Equiv.Perm (Fin n) :=
  (Equiv.ofBijective (fun k => (⟨rank s k, rank_lt s k⟩ : Fin n))
    (Finite.injective_iff_bijective.mp fun j k h => rank_injective s (congrArg Fin.val h))).symm

/-- The position the permutation gives a number back the number. -/
theorem byRank_symm (s : Fin n → α) (k : Fin n) : ((byRank s).symm k).val = rank s k := rfl

/-- A stable sort asks its relation only of an element and those listed after it: two relations that agree there sort
    alike. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort by falling value puts at place `i` the position of rank `i`. -/
theorem rank_sorted (s : Fin n → α) (i : Fin n) : rank s (sortedFrom (fun k k' => decide (s k' < s k)) i) = i.val := by
  have e : sortPositions n (fun k k' => decide (s k' < s k)) = List.ofFn (byRank s) := by
    rw [← sortPositions_of_perm (byRank s)]
    refine stableSort_later _ _ _ ((List.pairwise_lt_finRange n).imp fun {a b} hab => ?_)
    refine decide_eq_decide.mpr ?_
    rw [Fin.lt_def, byRank_symm, byRank_symm, ← ahead_iff_rank]
    exact ⟨.inl, fun h => h.elim id fun h => absurd h.2 (not_lt.mpr hab.le)⟩
  have e' : sortedFrom (fun k k' => decide (s k' < s k)) i = byRank s i := by
    unfold sortedFrom
    rw [List.get_of_eq e]
    simp
  rw [e', ← byRank_symm, Equiv.symm_apply_apply]

/-- A position of rank `i` is the one the stable sort puts at place `i`. -/
theorem rank_eq_iff (s : Fin n → α) (k i : Fin n) : rank s k = i.val ↔ k = sortedFrom (fun k k' => decide (s k' < s k)) i := by
  constructor
  · intro h; exact rank_injective s (h.trans (rank_sorted s i).symm)
  · rintro rfl; exact rank_sorted s i

/-- Positions appended with values below all others leave the ranks of the first ones as they were. -/
theorem rank_append {m : ℕ} (hm : n ≤ m) (s : Fin n → α) (x : Fin m → α) (hx : ∀ k : Fin n, x (Fin.castLE hm k) = s k)
    (hlow : ∀ j : Fin m, n ≤ j.val → ∀ k : Fin n, x j < s k) (k : Fin n) : rank x (Fin.castLE hm k) = rank s k := by
  unfold rank
  rw [← Finset.card_map (Fin.castLEEmb hm)]
  congr 1
  ext j
  simp only [Finset.mem_filter, Finset.mem_univ, true_and, Finset.mem_map]
  constructor
  · intro h
    have hj : j.val < n := by
      by_contra hj
      have := hlow j (by omega) k
      rcases h with h | ⟨h, -⟩
      · rw [hx] at h; exact lt_asymm h this
      · rw [hx] at h; rw [h] at this; exact lt_irrefl _ this
    refine ⟨⟨j.val, hj⟩, ?_, rfl⟩
    have ej : x j = s ⟨j.val, hj⟩ := hx ⟨j.val, hj⟩
    rcases h with h | ⟨h, h'⟩
    · rw [hx, ej] at h; exact .inl h
    · rw [hx, ej] at h; exact .inr ⟨h, h'⟩
  · rintro ⟨i, h, rfl⟩
    have ei : x ((Fin.castLEEmb hm) i) = s i := hx i
    rcases h with h | ⟨h, h'⟩
    · exact .inl (by rw [hx, ei]; exact h)
    · exact .inr ⟨by rw [hx, ei]; exact h, h'⟩

/-- The appended positions rank after all the first ones. -/
theorem rank_appended {m : ℕ} (hm : n ≤ m) (s : Fin n → α) (x : Fin m → α) (hx : ∀ k : Fin n, x (Fin.castLE hm k) = s k)
    (hlow : ∀ j : Fin m, n ≤ j.val → ∀ k : Fin n, x j < s k) (j : Fin m) (hj : n ≤ j.val) : n ≤ rank x j := by
  have h : (Finset.univ.map (Fin.castLEEmb hm)).card ≤ rank x j := by
    refine Finset.card_le_card fun i hi => ?_
    obtain ⟨k, -, rfl⟩ := Finset.mem_map.mp hi
    refine Finset.mem_filter.mpr ⟨Finset.mem_univ _, .inl ?_⟩
    have ek : x ((Fin.castLEEmb hm) k) = s k := hx k
    rw [ek]; exact hlow j hj k
  simpa using h

end Cert.Proof.Order

end
-- ==== Proof.Rank.lean ====
/-
  What the closing kernel leaves, read at an index over the extended reals: each bin's rank among the 32 columns, and
  in row `i` the bin of rank `i` and its share.
-/
module

public import proofs.«01_k».proof.Proof.Finish
public import proofs.«01_k».proof.Proof.Order
public import Idealize.ShloMosaic.Lib.IdealHost
public import Idealize.ShloMosaic.Lib.WordArith
public import Idealize.ShloMosaic.Lib.Pointwise

@[expose] public section

set_option maxRecDepth 16384

noncomputable section

namespace Cert.Proof.Rank

open Cert.KernelIdeal Cert.KernelIdeal.Gen Cert.Proof.Order
open Idealize.ShloMosaic Idealize.ShloMosaic.TcCoe

/-! ## Scalars -/

/-- A small word converted signed is the number. -/
theorem sitofp_ofNat (k : ℕ) (h : k < 2 ^ 31) : FloatOps.sitofp (F := Ideal) .f32 (BitVec.ofNat 32 k) = (k : EReal) := by
  refine (congrArg (fun z : ℤ => (((z : ℤ) : ℝ) : EReal)) (WordArith.toInt_ofNat_small k h)).trans ?_
  rw [Int.cast_natCast, EReal.coe_natCast]

/-- A condition widened and converted is one or zero. -/
theorem sitofp_bit (p : Prop) [Decidable p] :
    FloatOps.sitofp (F := Ideal) .f32 ((BitVec.ofBool (decide p)).setWidth 32) = if p then (1 : EReal) else 0 := by
  have e : ((BitVec.ofBool (decide p)).setWidth 32) = BitVec.ofNat 32 (if p then 1 else 0) := by
    by_cases h : p <;> simp [h]
  rw [e, sitofp_ofNat _ (by split <;> norm_num)]
  split <;> simp

/-- The word of twenty-seven. -/
theorem ofBits_27 : Ideal.ofBits .f32 0x41D80000#32 = ((27 : ℕ) : EReal) := by
  rw [show ((27 : ℕ) : EReal) = ((27 : ℝ) : EReal) by norm_cast]
  simp [Ideal.ofBits, Ideal.ieee, -EReal.coe_mul]; norm_num

/-- The word of minus one. -/
theorem ofBits_neg1 : Ideal.ofBits .f32 0xBF800000#32 = ((-1 : ℝ) : EReal) := by
  simp [Ideal.ofBits, Ideal.ieee, -EReal.coe_mul]; norm_num

/-- The quotient of two numbers. -/
theorem div_nat (n t : ℕ) (ht : t ≠ 0) : Ideal.div (n : EReal) (t : EReal) = (((n : ℝ) / t : ℝ) : EReal) := by
  rw [← EReal.coe_natCast (n := t), Ideal.div_coe (by exact_mod_cast ht), ← EReal.coe_natCast (n := n), ← EReal.coe_mul, mul_one_div]

/-! ## The columns -/

/-- The share of each of the 27 bins. -/
def share (N : ℕ → ℕ) (T : ℕ) (k : Fin 27) : EReal := (((N k.val : ℝ) / T : ℝ) : EReal)

/-- The 32 columns' values: the shares, then minus ones. -/
def column (N : ℕ → ℕ) (T : ℕ) (k : Fin 32) : EReal := if k.val < 27 then (((N k.val : ℝ) / T : ℝ) : EReal) else ((-1 : ℝ) : EReal)

variable (a b : Vec Ideal S32x32 .f32) (N : ℕ → ℕ)

/-- A column's number as a float. -/
theorem pay4_eq (j k : Fin 32) : (k1_pay4 (F := Ideal)) (ix2 j k) = ((k.val : ℕ) : EReal) := by
  pointwise [k1_pay4]
  exact sitofp_ofNat _ (by omega)

/-- The columns' sums added up. -/
theorem total_eq (ha : ∀ k : Fin 32, ∑ w : Fin 32, a (ix2 w k) = ((N k.val : ℕ) : EReal)) :
    ∑ k : Fin 32, ∑ w : Fin 32, a (ix2 w k) = ((∑ k : Fin 32, N k.val : ℕ) : EReal) := by
  rw [Nat.cast_sum]; exact Finset.sum_congr rfl fun k _ => ha k

/-- The rows of the column values. -/
theorem pay5_eq (T : ℕ) (hT : ∑ k : Fin 32, N k.val = T) (h0 : T ≠ 0)
    (ha : ∀ k : Fin 32, ∑ w : Fin 32, a (ix2 w k) = ((N k.val : ℕ) : EReal)) (j k : Fin 32) :
    (k1_pay5 (F := Ideal)) a (ix2 j k) = column N T k := by
  pointwise [k1_pay5, k1_pay2, k1_pay3, k1_pay4]
  rw [sitofp_ofNat _ (by omega), ofBits_27, ofBits_neg1, ha, total_eq a N ha, hT]
  simp only [Finset.sum_const, Finset.card_univ, Fintype.card_fin, one_smul]
  rw [div_nat _ _ h0]
  simp only [Nat.cast_lt, column]

/-- Which column has which rank, as ones and zeros. -/
theorem pay6_eq (T : ℕ) (hT : ∑ k : Fin 32, N k.val = T) (h0 : T ≠ 0)
    (ha : ∀ k : Fin 32, ∑ w : Fin 32, a (ix2 w k) = ((N k.val : ℕ) : EReal))
    (hb : ∀ k : Fin 32, ∑ w : Fin 32, b (ix2 k w) = ((N k.val : ℕ) : EReal)) (j k : Fin 32) :
    (k1_pay6 (F := Ideal)) a b (ix2 j k) = if rank (column N T) k = j.val then (1 : EReal) else 0 := by
  pointwise [k1_pay6, k1_pay2, k1_pay3]
  have hx : ∀ x : Fin 32, (if FloatOps.sitofp (F := Ideal) FTy.f32 (BitVec.ofNat 32 x.val) < Ideal.ofBits FTy.f32 1104674816#32 then
      Ideal.div (∑ w : Fin 32, b (ix2 x w)) (∑ _x : Fin 1, ∑ k : Fin 32, ∑ w : Fin 32, a (ix2 w k))
      else Ideal.ofBits FTy.f32 3212836864#32) = column N T x := fun x => by
    rw [sitofp_ofNat _ (by omega), ofBits_27, ofBits_neg1, hb, total_eq a N ha, hT]
    simp only [Finset.sum_const, Finset.card_univ, Fintype.card_fin, one_smul]
    rw [div_nat _ _ h0]
    simp only [Nat.cast_lt, column]
  simp only [hx, pay5_eq a N T hT h0 ha, pay4_eq, WordArith.andi_ofBool, WordArith.ori_ofBool, ← Bool.decide_and, ← Bool.decide_or, sitofp_bit]
  have hr : (∑ x : Fin 32, if column N T k < column N T x ∨ column N T x = column N T k ∧
      FloatOps.sitofp (F := Ideal) FTy.f32 (BitVec.ofNat 32 x.val) < ((k.val : ℕ) : EReal) then (1 : EReal) else 0) = ((rank (column N T) k : ℕ) : EReal) := by
    rw [Finset.sum_boole]
    refine congrArg (fun n : ℕ => (n : EReal)) (congrArg Finset.card (Finset.filter_congr fun x _ => ?_))
    rw [sitofp_ofNat _ (by omega), Nat.cast_lt]; rfl
  rw [hr, sitofp_ofNat _ (by omega)]
  simp only [Nat.cast_inj]

/-! ## The rows -/

/-- A sum over the columns with a one at one of them. -/
theorem sum_onehot {n : ℕ} (p : Fin n → Prop) [DecidablePred p] (i : Fin n) (hi : ∀ k, p k ↔ k = i) (f : Fin n → EReal) :
    ∑ k, (if p k then (1 : EReal) else 0) * f k = f i := by
  rw [Finset.sum_eq_single i]
  · rw [if_pos ((hi i).mpr rfl), one_mul]
  · intro k _ hk; rw [if_neg fun h => hk ((hi k).mp h), zero_mul]
  · intro h; exact absurd (Finset.mem_univ i) h

/-- The order of the shares: bin numbers by falling share, equal shares in the bins' order. -/
def sorted (N : ℕ → ℕ) (T : ℕ) (i : Fin 27) : Fin 27 := sortedFrom (fun k k' => decide (share N T k' < share N T k)) i

/-- Of the shares, bin `sorted i` alone has rank `i`. -/
theorem rank_share (T : ℕ) (i k : Fin 27) : rank (share N T) k = i.val ↔ k = sorted N T i := rank_eq_iff _ _ _

/-- Of the columns, bin `sorted i` alone has rank `i`. -/
theorem rank_column (T : ℕ) (i : Fin 27) (k : Fin 32) :
    rank (column N T) k = i.val ↔ k = Fin.castLE (by norm_num) (sorted N T i) := by
  have hx : ∀ k : Fin 27, column N T (Fin.castLE (by norm_num) k) = share N T k := fun k => if_pos k.isLt
  have hlow : ∀ j : Fin 32, 27 ≤ j.val → ∀ k, column N T j < share N T k := fun j hj k => by
    unfold column share
    rw [if_neg (by omega), EReal.coe_lt_coe_iff]
    have : (0 : ℝ) ≤ (N k.val : ℝ) / T := by positivity
    linarith
  have hs := fun k => rank_share N T i k
  generalize sorted N T i = q at hs ⊢
  have hle : 27 ≤ 32 := by norm_num
  by_cases hk : k.val < 27
  · obtain ⟨k', rfl⟩ : ∃ k' : Fin 27, k = Fin.castLE hle k' := ⟨⟨k.val, hk⟩, rfl⟩
    rw [rank_append hle (share N T) (column N T) hx hlow, hs]
    exact ⟨fun h => congrArg (Fin.castLE hle) h, fun h => Fin.castLE_injective hle h⟩
  · constructor
    · intro h
      have := rank_appended hle (share N T) (column N T) hx hlow k (by omega)
      have := i.isLt
      omega
    · intro h
      have h1 : k.val = q.val := congrArg (fun x : Fin 32 => x.val) h
      have h2 := q.isLt
      omega

/-- Row `i` of what the closing kernel leaves: the bin of rank `i`, and its share. -/
theorem finish_eq (T : ℕ) (hT : ∑ k : Fin 32, N k.val = T) (h0 : T ≠ 0)
    (ha : ∀ k : Fin 32, ∑ w : Fin 32, a (ix2 w k) = ((N k.val : ℕ) : EReal))
    (hb : ∀ k : Fin 32, ∑ w : Fin 32, b (ix2 k w) = ((N k.val : ℕ) : EReal)) (i : Fin 27) :
    SC.finish a b (ix2 (Fin.castLE (by norm_num) i) (0 : Fin 2)) = (((sorted N T i).val : ℕ) : EReal)
      ∧ SC.finish a b (ix2 (Fin.castLE (by norm_num) i) (1 : Fin 2)) = share N T (sorted N T i) := by
  have h7 : ∀ j k : Fin 32, (k1_pay7 (F := Ideal)) a b (ix2 j k) = (k1_pay6 (F := Ideal)) a b (ix2 j k) * (k1_pay4 (F := Ideal)) (ix2 j k) := fun _ _ => rfl
  have hr := fun k => rank_column N T i k
  generalize sorted N T i = q at hr ⊢
  unfold SC.finish
  constructor
  · pointwise [k1_pay1]
    simp only [h7, pay6_eq a b N T hT h0 ha hb, pay4_eq]
    exact sum_onehot _ _ hr (fun k => ((k.val : ℕ) : EReal))
  · pointwise [k1_pay1]
    simp only [pay5_eq a N T hT h0 ha, pay6_eq a b N T hT h0 ha hb]
    refine (sum_onehot _ _ hr (column N T)).trans ?_
    exact if_pos q.isLt

/-- A small number converted to a signed word. -/
theorem fptosi_nat (k : ℕ) (hk : k < 2 ^ 31) : Ideal.fptosi 32 ((k : ℕ) : EReal) = BitVec.ofNat 32 k := by
  rw [← EReal.coe_natCast, Ideal.fptosi, Ideal.toIntClamped_coe, if_pos (Nat.cast_nonneg k), Int.floor_natCast]
  rw [min_eq_right (by norm_num; omega), max_eq_right (by norm_num)]
  exact BitVec.ofInt_natCast 32 k

end Cert.Proof.Rank

end
-- ==== Proof.Value.lean ====
/-
  What the kernel's run leaves in its two results at the extended reals: the bins in order of falling share, and their
  shares, where a bin's share is the number of the image's pixels in it over the number of pixels.
-/
module

public import proofs.«01_k».proof.Proof.Frames
public import proofs.«01_k».proof.Proof.Count
public import proofs.«01_k».proof.Proof.Rank

@[expose] public section

set_option maxRecDepth 16384

noncomputable section

namespace Cert.Proof.Value

open Cert.Proof.SC hiding ix1
open Cert.KernelIdeal Cert.KernelIdeal.Gen Cert.Proof.Hist Cert.Proof.Count Cert.Proof.Rank
open Idealize.ShloMosaic Idealize.ShloMosaic.TcCoe Idealize.SL.Sem Idealize.ShloMosaic.StableHlo

/-! ## The closing kernel on the tiles' counts -/

/-- The flat image. -/
def flat (img : Vec Ideal S3x512x512 .f32) : Vec Ideal S786432 .f32 := shapeCast S786432 img shapeCasts_S3x512x512_S786432

/-- The closing kernel's result from the flat image. -/
def closed (x : Vec Ideal S786432 .f32) : Vec Ideal S32x2 .f32 :=
  finish (partial32 x) (transpose S32x32 [1, 0] (partial32 x) transposes_S32x32_S32x32_1_0)

/-- The 32 counts add up to the number of pixels. -/
theorem sum_num32 (x : Vec Ideal S786432 .f32) : ∑ k : Fin 32, num x k.val = 262144 := by
  rw [← sum_num x, ← Finset.sum_range (fun k => num x k), ← Finset.sum_range (fun k => num x k)]
  refine (Finset.sum_subset (Finset.range_subset_range.mpr (by norm_num)) fun k _ hk => num_pad x k ?_).symm
  rw [Finset.mem_range] at hk; omega

/-- Row `i` of the closing kernel's result. -/
theorem closed_eq (x : Vec Ideal S786432 .f32) (i : Fin 27) :
    closed x (ix2 (Fin.castLE (by norm_num) i) (0 : Fin 2)) = (((sorted (num x) 262144 i).val : ℕ) : EReal)
      ∧ closed x (ix2 (Fin.castLE (by norm_num) i) (1 : Fin 2)) = share (num x) 262144 (sorted (num x) 262144 i) := by
  refine finish_eq _ _ (num x) 262144 (sum_num32 x) (by norm_num) (sum_rows x) (fun k => ?_) i
  refine (Finset.sum_congr rfl fun w _ => ?_).trans (sum_rows x k)
  pointwise []

/-- The first result from the closing kernel's. -/
theorem first_eq (x : Vec Ideal S786432 .f32) (i : Fin 27) :
    fptosi (F := Ideal) (φ := .f32) 32 (shapeCast S27 (extractStridedSlice S27x1 ![0, 0] (closed x) slices_S32x2_S27x1_0_0) shapeCasts_S27x1_S27) (ix1 i)
      = BitVec.ofNat 32 (sorted (num x) 262144 i).val := by
  pointwise []
  have h := (closed_eq x i).1
  generalize sorted (num x) 262144 i = q at h ⊢
  rw [← fptosi_nat q.val (by omega), ← h]
  rfl

/-- The second result from the closing kernel's. -/
theorem second_eq (x : Vec Ideal S786432 .f32) (i : Fin 27) :
    shapeCast S27 (extractStridedSlice S27x1 ![0, 1] (closed x) slices_S32x2_S27x1_0_1) shapeCasts_S27x1_S27 (ix1 i)
      = share (num x) 262144 (sorted (num x) 262144 i) := by
  pointwise []
  exact (closed_eq x i).2

/-! ## The run's results -/

variable (m : (ℓ : Loc nD τ sig) → Buf (Elt Ideal) ℓ)

/-- The flat image after the first operation. -/
theorem V1_w0 (d : Dev nD) : V1 m d w0 = flat (m (d, b0)) := by
  unfold V1; rw [reshape_result']; rfl

/-- What the closing kernel leaves. -/
theorem V4_w3 (d : Dev nD) : V4 m d w3 = closed (flat (m (d, b0))) := by
  have e1 : V3 m d w1 = partial32 (flat (m (d, b0))) := by
    unfold V3; rw [unary_result_ne _ _ _ _ _ _ (by decide)]
    unfold V2; rw [Function.update_self, V1_w0]
  have e2 : V3 m d w2 = transpose S32x32 [1, 0] (partial32 (flat (m (d, b0)))) transposes_S32x32_S32x32_1_0 := by
    unfold V3; rw [unary_result']
    unfold V2; rw [Function.update_self, V1_w0]
  unfold V4; rw [Function.update_self, e1, e2]; rfl

/-- The first result: the bins in order of falling share. -/
theorem V9_w6 (d : Dev nD) : V9 m d w6 = fun i => BitVec.ofNat 32 (sorted (num (flat (m (d, b0)))) 262144 (i 0)).val := by
  unfold V9; rw [reshape_result_ne _ _ _ _ _ _ _ (by decide)]
  unfold V8; rw [unary_result_ne _ _ _ _ _ _ (by decide)]
  unfold V7; rw [unary_result']
  unfold V6; rw [reshape_result']
  unfold V5; rw [unary_result', V4_w3]
  funext i
  obtain ⟨k, rfl⟩ : ∃ k : Fin 27, i = ix1 k := ⟨i 0, by funext a; obtain rfl : a = (0 : Fin 1) := Subsingleton.elim (α := Fin 1) _ _; rfl⟩
  exact first_eq _ k

/-- The second result: their shares. -/
theorem V9_w8 (d : Dev nD) : V9 m d w8 = fun i => share (num (flat (m (d, b0)))) 262144 (sorted (num (flat (m (d, b0)))) 262144 (i 0)) := by
  have e : V7 m d w3 = V4 m d w3 := by
    unfold V7; rw [unary_result_ne _ _ _ _ _ _ (by decide)]
    unfold V6; rw [reshape_result_ne _ _ _ _ _ _ _ (by decide)]
    unfold V5; rw [unary_result_ne _ _ _ _ _ _ (by decide)]
  unfold V9; rw [reshape_result']
  unfold V8; rw [unary_result', e, V4_w3]
  funext i
  obtain ⟨k, rfl⟩ : ∃ k : Fin 27, i = ix1 k := ⟨i 0, by funext a; obtain rfl : a = (0 : Fin 1) := Subsingleton.elim (α := Fin 1) _ _; rfl⟩
  exact second_eq _ k

/-- Channel `c` of pixel `512 r + q` in the flat image. -/
theorem flat_eq (img : Vec Ideal S3x512x512 .f32) (c : Fin 3) (r q : Fin 512) :
    flat img (atImg (262144 * c.val + (512 * r.val + q.val))) = img (ix3 c r q) := by
  have e : atImg (262144 * c.val + (512 * r.val + q.val)) = ix1 (⟨262144 * c.val + (512 * r.val + q.val), by omega⟩ : Fin 786432) := by
    funext a; obtain rfl : a = (0 : Fin 1) := Subsingleton.elim (α := Fin 1) _ _
    exact Fin.ext (Nat.mod_eq_of_lt (by omega))
  rw [e]
  unfold flat
  refine shapeCast_apply img shapeCasts_S3x512x512_S786432 _ (ix3 c r q) ?_
  simp [Shape.rowMajor_val_one, Shape.rowMajor_val_three]
  omega

end Cert.Proof.Value

end
-- ==== Proof.Ref.lean ====
/- The reference's run. Its @main is one line of host operations on the TensorCore, the two called functions' bodies in
   their places: every weakly fair run ends, each array at the line's result, the arguments as they were. What the two
   results hold is named in stages: the distances, the nearest colour, the feature, the counts, the shares, the order,
   the shares in that order. -/
module

public import proofs.«01_k».proof.ReferenceIdeal
public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## The results' stages -/

/-- Every pixel's distance to every colour: the sum over the channels of the absolute differences. -/
def distance (img : FVec F S3x512x512 .f32) (pal : FVec F S27x3x1x1 .f32) : FVec F S27x512x512 .f32 :=
  Host.reduceAdd (Host.absf (subf
      (broadcastInDim S27x3x512x512 ![0, 1, 2, 3] bcast_S1x3x512x512_S27x3x512x512_0_1_2_3
        (broadcastInDim S1x3x512x512 ![1, 2, 3] bcast_S3x512x512_S1x3x512x512_1_2_3 img))
      (broadcastInDim S27x3x512x512 ![0, 1, 2, 3] bcast_S27x3x1x1_S27x3x512x512_0_1_2_3 pal)))
    (constant S_ .f32 0x00000000#32) reducesTo_S27x3x512x512_S27x512x512_d1 h_S_

/-- The numbers a reduction of values and numbers leaves. -/
def numbers {s t u : Shape} {axes : List (Fin s.rank)} (f : F .f32 × BitVec 32 → F .f32 × BitVec 32 → F .f32 × BitVec 32) (x : FVec F s .f32)
    (y : IVec s 32) (ix : FVec F u .f32) (iy : IVec u 32) (h : s.ReducesTo axes t) (hu : 0 < u.numel) : IVec t 32 :=
  fun j => (Host.argReduce f x y ix iy h hu j).2

/-- Every pixel's nearest colour, the first of several. -/
def nearest (D : FVec F S27x512x512 .f32) : IVec S512x512 32 :=
  numbers reducer_argmin_f32_i32 D (iotaInDim S27x512x512 32 0) (constant S_ .f32 0x7F800000#32) (constantI S_ 32 0#32)
    reducesTo_S27x512x512_S512x512_d0 h_S_

/-- A pixel's feature: its colour's number, pushed down by 27 where the mask is zero. -/
def feature (n : IVec S512x512 32) (mask : FVec F S1x512x512 .f32) : FVec F S512x512 .f32 :=
  subf (sitofp .f32 n)
    (mulf (subf (broadcastInDim S512x512 ![] bcast_S_S512x512 (constant S_ .f32 0x3F800000#32))
        (shapeCast S512x512 mask shapeCasts_S1x512x512_S512x512))
      (broadcastInDim S512x512 ![] bcast_S_S512x512 (constant S_ .f32 0x41D80000#32)))

/-- How many pixels have each colour's number for a feature. -/
def counts (f : FVec F S512x512 .f32) : FVec F S27 .f32 :=
  Host.reduceAdd (uitofp .f32 (cmpf .oeq
      (broadcastInDim S27x512x512 ![0, 1, 2] bcast_S1x512x512_S27x512x512_0_1_2
        (broadcastInDim S1x512x512 ![1, 2] bcast_S512x512_S1x512x512_1_2 f))
      (broadcastInDim S27x512x512 ![0, 1, 2] bcast_S27x1x1_S27x512x512_0_1_2
        (broadcastInDim S27x1x1 ![0] bcast_S27_S27x1x1_0 (sitofp .f32 (iotaInDim S27 32 0))))))
    (constant S_ .f32 0x00000000#32) reducesTo_S27x512x512_S27_d1_2 h_S_

/-- Each count's share of their sum. -/
def shares (c : FVec F S27 .f32) : FVec F S27 .f32 :=
  Host.divf c (broadcastInDim S27 ![] bcast_S_S27
    (Host.reduceAdd c (constant S_ .f32 0x00000000#32) reducesTo_S27_S_d0 h_S_))

/-- The colours by falling share, equal shares in the colours' order. -/
def order (s : FVec F S27 .f32) : IVec S27 32 :=
  (Host.sort2 S27 0 comparator_f32_i32_d0 (Host.negf s) (iotaInDim S27 32 0)).2

/-- The shares along an order. -/
def along (s : FVec F S27 .f32) (o : IVec S27 32) : FVec F S27 .f32 :=
  Host.gather gather_S27_S27x1_S27_n_0_n_n_0_1_1 s
    (broadcastInDim S27x1 ![0] bcast_S27_S27x1_0
      (select (cmpi .slt o (broadcastInDim S27 ![] bcast_S_S27 (constantI S_ 32 0#32)))
        (addi o (broadcastInDim S27 ![] bcast_S_S27 (constantI S_ 32 27#32))) o))

/-- The reference's shares. -/
def final (img : FVec F S3x512x512 .f32) (mask : FVec F S1x512x512 .f32) (pal : FVec F S27x3x1x1 .f32) : FVec F S27 .f32 :=
  shares (counts (feature (nearest (distance img pal)) mask))

/-! ## The line -/

/-- @main's operations in order, the two calls' bodies in their places. -/
abbrev ops : List (HloOp τ sig (Elt F)) :=
  [ unary main_arg0 main_v0 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    unary main_v0 main_v1 (broadcastInDim S27x3x512x512 ![0, 1, 2, 3] bcast_S1x3x512x512_S27x3x512x512_0_1_2_3 : (⟨S1x3x512x512, .f32⟩ : BufTy).Contents (Elt F) → (⟨S27x3x512x512, .f32⟩ : BufTy).Contents (Elt F)),
    unary main_arg2 main_v2 (broadcastInDim S27x3x512x512 ![0, 1, 2, 3] bcast_S27x3x1x1_S27x3x512x512_0_1_2_3 : (⟨S27x3x1x1, .f32⟩ : BufTy).Contents (Elt F) → (⟨S27x3x512x512, .f32⟩ : BufTy).Contents (Elt F)),
    binary main_v1 main_v2 main_v3 (subf : (⟨S27x3x512x512, .f32⟩ : BufTy).Contents (Elt F) → (⟨S27x3x512x512, .f32⟩ : BufTy).Contents (Elt F) → (⟨S27x3x512x512, .f32⟩ : BufTy).Contents (Elt F)),
    unary main_v3 main_v4 (Host.absf : (⟨S27x3x512x512, .f32⟩ : BufTy).Contents (Elt F) → (⟨S27x3x512x512, .f32⟩ : BufTy).Contents (Elt F)),
    nullary main_cst (constant S_ .f32 0x00000000#32),
    binary main_v4 main_cst main_v5 ((fun x v => Host.reduceAdd x v reducesTo_S27x3x512x512_S27x512x512_d1 h_S_) : (⟨S27x3x512x512, .f32⟩ : BufTy).Contents (Elt F) → (⟨S_, .f32⟩ : BufTy).Contents (Elt F) → (⟨S27x512x512, .f32⟩ : BufTy).Contents (Elt F)),
    TRef.nullary main_call0.v0 (iotaInDim S27x512x512 32 0),
    TRef.nullary main_call0.cst (constant S_ .f32 0x7F800000#32),
    TRef.nullary main_call0.c (constantI S_ 32 0#32),
    TRef.quaternary (.of main_v5) main_call0.v0 main_call0.cst main_call0.c main_call0.v1_0 (fun x y u v j => (Host.argReduce reducer_argmin_f32_i32 x y u v reducesTo_S27x512x512_S512x512_d0 h_S_ j).1),
    TRef.quaternary (.of main_v5) main_call0.v0 main_call0.cst main_call0.c main_call0.v1_1 (fun x y u v j => (Host.argReduce reducer_argmin_f32_i32 x y u v reducesTo_S27x512x512_S512x512_d0 h_S_ j).2),
    unary main_v6 main_v7 (sitofp .f32 : (⟨S512x512, .i32⟩ : BufTy).Contents (Elt F) → (⟨S512x512, .f32⟩ : BufTy).Contents (Elt F)),
    reshape main_arg1 main_v8 (rfl : (.f32 : EltTy) = .f32) shapeCasts_S1x512x512_S512x512,
    nullary main_cst_0 (constant S_ .f32 0x3F800000#32),
    unary main_cst_0 main_v9 (broadcastInDim S512x512 ![] bcast_S_S512x512 : (⟨S_, .f32⟩ : BufTy).Contents (Elt F) → (⟨S512x512, .f32⟩ : BufTy).Contents (Elt F)),
    binary main_v9 main_v8 main_v10 (subf : (⟨S512x512, .f32⟩ : BufTy).Contents (Elt F) → (⟨S512x512, .f32⟩ : BufTy).Contents (Elt F) → (⟨S512x512, .f32⟩ : BufTy).Contents (Elt F)),
    nullary main_cst_1 (constant S_ .f32 0x41D80000#32),
    unary main_cst_1 main_v11 (broadcastInDim S512x512 ![] bcast_S_S512x512 : (⟨S_, .f32⟩ : BufTy).Contents (Elt F) → (⟨S512x512, .f32⟩ : BufTy).Contents (Elt F)),
    binary main_v10 main_v11 main_v12 (mulf : (⟨S512x512, .f32⟩ : BufTy).Contents (Elt F) → (⟨S512x512, .f32⟩ : BufTy).Contents (Elt F) → (⟨S512x512, .f32⟩ : BufTy).Contents (Elt F)),
    binary main_v7 main_v12 main_v13 (subf : (⟨S512x512, .f32⟩ : BufTy).Contents (Elt F) → (⟨S512x512, .f32⟩ : BufTy).Contents (Elt F) → (⟨S512x512, .f32⟩ : BufTy).Contents (Elt F)),
    nullary main_v14 (sitofp .f32 (iotaInDim S27 32 0)),
    unary main_v14 main_v15 (broadcastInDim S27x1x1 ![0] bcast_S27_S27x1x1_0 : (⟨S27, .f32⟩ : BufTy).Contents (Elt F) → (⟨S27x1x1, .f32⟩ : BufTy).Contents (Elt F)),
    unary main_v13 main_v16 (broadcastInDim S1x512x512 ![1, 2] bcast_S512x512_S1x512x512_1_2 : (⟨S512x512, .f32⟩ : BufTy).Contents (Elt F) → (⟨S1x512x512, .f32⟩ : BufTy).Contents (Elt F)),
    unary main_v16 main_v17 (broadcastInDim S27x512x512 ![0, 1, 2] bcast_S1x512x512_S27x512x512_0_1_2 : (⟨S1x512x512, .f32⟩ : BufTy).Contents (Elt F) → (⟨S27x512x512, .f32⟩ : BufTy).Contents (Elt F)),
    unary main_v15 main_v18 (broadcastInDim S27x512x512 ![0, 1, 2] bcast_S27x1x1_S27x512x512_0_1_2 : (⟨S27x1x1, .f32⟩ : BufTy).Contents (Elt F) → (⟨S27x512x512, .f32⟩ : BufTy).Contents (Elt F)),
    binary main_v17 main_v18 main_v19 (cmpf .oeq : (⟨S27x512x512, .f32⟩ : BufTy).Contents (Elt F) → (⟨S27x512x512, .f32⟩ : BufTy).Contents (Elt F) → (⟨S27x512x512, .i1⟩ : BufTy).Contents (Elt F)),
    unary main_v19 main_v20 (uitofp .f32 : (⟨S27x512x512, .i1⟩ : BufTy).Contents (Elt F) → (⟨S27x512x512, .f32⟩ : BufTy).Contents (Elt F)),
    nullary main_cst_2 (constant S_ .f32 0x00000000#32),
    binary main_v20 main_cst_2 main_v21 ((fun x v => Host.reduceAdd x v reducesTo_S27x512x512_S27_d1_2 h_S_) : (⟨S27x512x512, .f32⟩ : BufTy).Contents (Elt F) → (⟨S_, .f32⟩ : BufTy).Contents (Elt F) → (⟨S27, .f32⟩ : BufTy).Contents (Elt F)),
    nullary main_cst_3 (constant S_ .f32 0x00000000#32),
    binary main_v21 main_cst_3 main_v22 ((fun x v => Host.reduceAdd x v reducesTo_S27_S_d0 h_S_) : (⟨S27, .f32⟩ : BufTy).Contents (Elt F) → (⟨S_, .f32⟩ : BufTy).Contents (Elt F) → (⟨S_, .f32⟩ : BufTy).Contents (Elt F)),
    unary main_v22 main_v23 (broadcastInDim S27 ![] bcast_S_S27 : (⟨S_, .f32⟩ : BufTy).Contents (Elt F) → (⟨S27, .f32⟩ : BufTy).Contents (Elt F)),
    binary main_v21 main_v23 main_v24 (Host.divf : (⟨S27, .f32⟩ : BufTy).Contents (Elt F) → (⟨S27, .f32⟩ : BufTy).Contents (Elt F) → (⟨S27, .f32⟩ : BufTy).Contents (Elt F)),
    unary main_v24 main_v25 (Host.negf : (⟨S27, .f32⟩ : BufTy).Contents (Elt F) → (⟨S27, .f32⟩ : BufTy).Contents (Elt F)),
    TRef.nullary main_call1.v0 (iotaInDim S27 32 0),
    TRef.binary (.of main_v25) main_call1.v0 main_call1.v1_0 (fun x y => (Host.sort2 S27 0 comparator_f32_i32_d0 x y).1),
    TRef.binary (.of main_v25) main_call1.v0 main_call1.v1_1 (fun x y => (Host.sort2 S27 0 comparator_f32_i32_d0 x y).2),
    nullary main_c (constantI S_ 32 0#32),
    unary main_c main_v27 (broadcastInDim S27 ![] bcast_S_S27 : (⟨S_, .i32⟩ : BufTy).Contents (Elt F) → (⟨S27, .i32⟩ : BufTy).Contents (Elt F)),
    binary main_v26 main_v27 main_v28 (cmpi .slt : (⟨S27, .i32⟩ : BufTy).Contents (Elt F) → (⟨S27, .i32⟩ : BufTy).Contents (Elt F) → (⟨S27, .i1⟩ : BufTy).Contents (Elt F)),
    nullary main_c_4 (constantI S_ 32 27#32),
    unary main_c_4 main_v29 (broadcastInDim S27 ![] bcast_S_S27 : (⟨S_, .i32⟩ : BufTy).Contents (Elt F) → (⟨S27, .i32⟩ : BufTy).Contents (Elt F)),
    binary main_v26 main_v29 main_v30 (addi : (⟨S27, .i32⟩ : BufTy).Contents (Elt F) → (⟨S27, .i32⟩ : BufTy).Contents (Elt F) → (⟨S27, .i32⟩ : BufTy).Contents (Elt F)),
    ternary main_v28 main_v30 main_v26 main_v31 (select : (⟨S27, .i1⟩ : BufTy).Contents (Elt F) → (⟨S27, .i32⟩ : BufTy).Contents (Elt F) → (⟨S27, .i32⟩ : BufTy).Contents (Elt F) → (⟨S27, .i32⟩ : BufTy).Contents (Elt F)),
    unary main_v31 main_v32 (broadcastInDim S27x1 ![0] bcast_S27_S27x1_0 : (⟨S27, .i32⟩ : BufTy).Contents (Elt F) → (⟨S27x1, .i32⟩ : BufTy).Contents (Elt F)),
    binary main_v24 main_v32 main_v33 ((fun x i => Host.gather gather_S27_S27x1_S27_n_0_n_n_0_1_1 x i) : (⟨S27, .f32⟩ : BufTy).Contents (Elt F) → (⟨S27x1, .i32⟩ : BufTy).Contents (Elt F) → (⟨S27, .f32⟩ : BufTy).Contents (Elt F)) ]

/-- @main is the line of operations. -/
theorem main_eq (c : Dev nD) : main (F := F) c = seq ops := by
  simp only [main, fn_argmin.body, fn_argsort.body, seq, bind_assoc, pure_bind]

/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- The line's operations touch the TensorCore's arrays only. -/
theorem ops_sub : (ops : List (HloOp τ sig (Elt F))).Forall fun op => op.bufs ⊆ tcRefs τ sig :=
  ⟨unary_bufs_sub .., unary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., unary_bufs_sub .., binary_bufs_sub .., unary_bufs_sub .., nullary_bufs_sub .., binary_bufs_sub .., nullary_bufs_sub .., binary_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Every weakly fair run of the reference ends with each array at the line's result. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line's reads -/

variable (V : Valuation τ sig (Elt F))

/-- The line leaves the image as it was. -/
theorem arg0_eq : after ops V (main_arg0 : DevRef τ sig) = V (main_arg0 : DevRef τ sig) := by after_reads_simp
/-- The line leaves the mask as it was. -/
theorem arg1_eq : after ops V (main_arg1 : DevRef τ sig) = V (main_arg1 : DevRef τ sig) := by after_reads_simp
/-- The line leaves the colours as they were. -/
theorem arg2_eq : after ops V (main_arg2 : DevRef τ sig) = V (main_arg2 : DevRef τ sig) := by after_reads_simp

/-- The second result's source: the shares. -/
theorem final_eq : after ops V (main_v24 : DevRef τ sig)
    = final (V (main_arg0 : DevRef τ sig)) (V (main_arg1 : DevRef τ sig)) (V (main_arg2 : DevRef τ sig)) := by
  after_reads_simp
  rfl

/-- The first result: the order of the shares. -/
theorem order_eq : after ops V (main_v26 : DevRef τ sig)
    = order (final (V (main_arg0 : DevRef τ sig)) (V (main_arg1 : DevRef τ sig)) (V (main_arg2 : DevRef τ sig))) := by
  after_reads_simp
  rfl

/-- The second result: the shares along that order. -/
theorem vals_eq : after ops V (main_v33 : DevRef τ sig)
    = along (final (V (main_arg0 : DevRef τ sig)) (V (main_arg1 : DevRef τ sig)) (V (main_arg2 : DevRef τ sig)))
        (order (final (V (main_arg0 : DevRef τ sig)) (V (main_arg1 : DevRef τ sig)) (V (main_arg2 : DevRef τ sig)))) := by
  after_reads_simp
  rfl

end Cert.Proof.Ref

end
-- ==== Proof.Nearest.lean ====
/-
  The reference's nearest colour, read as plain mathematics: of the 27 colours whose channels are the levels 0, 127 and
  255, the first nearest to a pixel is the one whose channels are the levels the pixel's channels pass the thresholds of.
-/
module

public import proofs.«01_k».proof.Proof.Ref
public import proofs.«01_k».proof.Proof.Hist
public import proofs.«01_k».proof.Proof.Rank
public import Idealize.ShloMosaic.Lib.IdealHost
public import Idealize.ShloMosaic.Lib.WordArith
public import Idealize.ShloMosaic.Lib.Pointwise
public import Idealize.ShloMosaic.Lib.Routing.OpsSet

@[expose] public section

set_option maxRecDepth 16384

noncomputable section

namespace Cert.Proof.Nearest

open Cert.ReferenceIdeal Cert.ReferenceIdeal.Gen Cert.Proof.Ref
open Idealize.ShloMosaic
open Cert.Proof.Hist (lev bin lev_le)

/-! ## One channel -/

/-- The three levels. -/
def level (i : ℕ) : ℝ := if i = 0 then 0 else if i = 1 then 127 else 255

/-- The lower threshold. -/
theorem ofBits_low : Ideal.ofBits .f32 0x427E0000#32 = ((63.5 : ℝ) : EReal) := by
  simp [Ideal.ofBits, Ideal.ieee, -EReal.coe_mul]; norm_num

/-- The upper threshold. -/
theorem ofBits_high : Ideal.ofBits .f32 0x433F0000#32 = ((191 : ℝ) : EReal) := by
  simp [Ideal.ofBits, Ideal.ieee, -EReal.coe_mul]; norm_num

/-- A real's level is the number of thresholds below it. -/
theorem lev_real (v : ℝ) : lev (F := Ideal) ((v : ℝ) : EReal) = (if 63.5 < v then 1 else 0) + (if 191 < v then 1 else 0) := by
  have h : ∀ (t : ℝ) (b : BitVec 32), Ideal.ofBits .f32 b = ((t : ℝ) : EReal) →
      (FloatOps.cmpf (F := Ideal) (φ := .f32) .ogt ((v : ℝ) : EReal) (Scalar.ofBits .f32 b)).toNat = if t < v then 1 else 0 := fun t b hb => by
    have e : FloatOps.cmpf (F := Ideal) (φ := .f32) .ogt ((v : ℝ) : EReal) (Scalar.ofBits .f32 b)
        = BitVec.ofBool (decide ((t : EReal) < (v : EReal))) := by rw [← hb]; rfl
    rw [e]
    by_cases hv : t < v
    · rw [if_pos hv, decide_eq_true (EReal.coe_lt_coe_iff.mpr hv)]; rfl
    · rw [if_neg hv, decide_eq_false (fun h => hv (EReal.coe_lt_coe_iff.mp h))]; rfl
  unfold lev
  rw [h _ _ ofBits_low, h _ _ ofBits_high]

/-- A real is nearest to the level it has, and of two nearest levels it has the lower. -/
theorem near (v : ℝ) (i : ℕ) (hi : i < 3) :
    |v - level (lev (F := Ideal) (v : EReal))| < |v - level i|
      ∨ (|v - level (lev (F := Ideal) (v : EReal))| = |v - level i| ∧ lev (F := Ideal) (v : EReal) ≤ i) := by
  have l0 : level 0 = 0 := rfl
  have l1 : level 1 = 127 := by simp [level]
  have l2 : level 2 = 255 := by simp [level]
  have up : ∀ {a b : ℝ} {n : ℕ}, a ≤ b → n ≤ i → a < b ∨ (a = b ∧ n ≤ i) := fun h hn =>
    (lt_or_eq_of_le h).elim .inl fun e => .inr ⟨e, hn⟩
  rw [lev_real]
  rcases le_or_gt v 63.5 with h1 | h1
  · have h2 : v ≤ 191 := by norm_num at h1 ⊢; linarith
    rw [if_neg (not_lt.mpr h1), if_neg (not_lt.mpr h2)]
    norm_num at h1
    interval_cases i <;> refine up ?_ (by norm_num)
    · exact le_rfl
    · rw [l0, l1]; rcases abs_cases (v - 0) with h | h <;> rcases abs_cases (v - 127) with h' | h' <;> linarith
    · rw [l0, l2]; rcases abs_cases (v - 0) with h | h <;> rcases abs_cases (v - 255) with h' | h' <;> linarith
  · rw [if_pos h1]
    norm_num at h1
    rcases le_or_gt v 191 with h2 | h2
    · rw [if_neg (not_lt.mpr h2)]
      interval_cases i
      · left; rw [l0, l1]; rcases abs_cases (v - 0) with h | h <;> rcases abs_cases (v - 127) with h' | h' <;> linarith
      · exact up le_rfl le_rfl
      · refine up ?_ (by norm_num)
        rw [l1, l2]; rcases abs_cases (v - 127) with h | h <;> rcases abs_cases (v - 255) with h' | h' <;> linarith
    · rw [if_pos h2]
      interval_cases i
      · left; rw [l0, l2]; rcases abs_cases (v - 0) with h | h <;> rcases abs_cases (v - 255) with h' | h' <;> linarith
      · left; rw [l1, l2]; rcases abs_cases (v - 127) with h | h <;> rcases abs_cases (v - 255) with h' | h' <;> linarith
      · exact up le_rfl le_rfl

/-! ## One pixel -/

/-- The distance of a pixel to colour `k`. -/
def far (r g b : ℝ) (k : ℕ) : ℝ := |r - level (k / 9)| + |g - level (k / 3 % 3)| + |b - level (k % 3)|

/-- No colour is nearer than the pixel's bin, and none equally near comes before it. -/
theorem far_bin (r g b : ℝ) (k : ℕ) (hk : k < 27) :
    far r g b (bin (F := Ideal) (r : EReal) (g : EReal) (b : EReal)) < far r g b k
      ∨ (far r g b (bin (F := Ideal) (r : EReal) (g : EReal) (b : EReal)) = far r g b k
        ∧ bin (F := Ideal) (r : EReal) (g : EReal) (b : EReal) ≤ k) := by
  have h1 := near r (k / 9) (by omega)
  have h2 := near g (k / 3 % 3) (by omega)
  have h3 := near b (k % 3) (by omega)
  have l1 := lev_le (F := Ideal) (r : EReal)
  have l2 := lev_le (F := Ideal) (g : EReal)
  have l3 := lev_le (F := Ideal) (b : EReal)
  unfold far bin
  generalize lev (F := Ideal) (r : EReal) = i at *
  generalize lev (F := Ideal) (g : EReal) = j at *
  generalize lev (F := Ideal) (b : EReal) = l at *
  rw [show (9 * i + 3 * j + l) / 9 = i by omega, show (9 * i + 3 * j + l) / 3 % 3 = j by omega, show (9 * i + 3 * j + l) % 3 = l by omega]
  rcases h1 with h1 | ⟨h1, e1⟩ <;> rcases h2 with h2 | ⟨h2, e2⟩ <;> rcases h3 with h3 | ⟨h3, e3⟩
  case inr.inr.inr => exact .inr ⟨by rw [h1, h2, h3], by omega⟩
  all_goals left; linarith

/-! ## The fold -/

/-- A fold that keeps the better of two ends at the best, if it meets it. -/
theorem foldl_best {A : Type} (red : A → A → A) (m : A) (le : A → Prop) (h1 : ∀ a, le a → red a m = m) (h2 : ∀ q, le q → red m q = m)
    (h3 : ∀ a q, le a → le q → le (red a q)) (L : List A) (hL : ∀ q ∈ L, le q) (hm : m ∈ L) (a : A) (ha : le a) : L.foldl red a = m := by
  have stay : ∀ L : List A, (∀ q ∈ L, le q) → L.foldl red m = m := fun L => by
    induction L with
    | nil => intro _; rfl
    | cons q L ih =>
      intro hL
      rw [List.foldl_cons, h2 q (hL q (List.mem_cons_self ..))]
      exact ih fun q hq => hL q (List.mem_cons_of_mem _ hq)
  induction L generalizing a with
  | nil => exact absurd hm (List.not_mem_nil)
  | cons q L ih =>
    rw [List.foldl_cons]
    rcases List.mem_cons.mp hm with e | hm
    · subst e; rw [h1 a ha]; exact stay L fun q hq => hL q (List.mem_cons_of_mem _ hq)
    · exact ih (fun q hq => hL q (List.mem_cons_of_mem _ hq)) hm _ (h3 a q ha (hL q (List.mem_cons_self ..)))

/-- The reducer of the arg-min at the extended reals: the smaller value, of equal ones the smaller number. -/
theorem reducer_eq (a b : EReal × BitVec 32) :
    reducer_argmin_f32_i32 (F := Ideal) a b = if a.1 < b.1 ∨ (a.1 = b.1 ∧ a.2.toInt < b.2.toInt) then a else b := by
  have e : reducer_argmin_f32_i32 (F := Ideal) a b =
      (Scalar.select (IntOp.ori (BitVec.ofBool (decide (a.1 < b.1))) (BitVec.ofBool (decide (a.1 ≠ a.1)))) a.1 b.1,
       Scalar.select (IntOp.ori (IntOp.ori (BitVec.ofBool (decide (a.1 < b.1))) (BitVec.ofBool (decide (a.1 ≠ a.1))))
        (IntOp.andi (BitVec.ofBool (decide (a.1 = b.1))) (BitVec.ofBool (a.2.slt b.2)))) a.2 b.2) := rfl
  rw [e]
  have hs : a.2.slt b.2 = decide (a.2.toInt < b.2.toInt) := by rw [BitVec.slt]
  rw [hs, WordArith.ori_ofBool, WordArith.andi_ofBool, WordArith.ori_ofBool]
  obtain ⟨x, i⟩ := a
  obtain ⟨y, j⟩ := b
  by_cases h1 : x < y
  · simp [Scalar.select, h1]
  · by_cases h2 : x = y
    · subst h2
      by_cases h3 : i.toInt < j.toInt <;> simp [Scalar.select, h3]
    · simp [Scalar.select, h1, h2]

/-! ## The nearest colour -/

/-- The level of channel `c` in colour `k`. -/
def digit (k : ℕ) (c : Fin 3) : ℕ := if c = 0 then k / 9 else if c = 1 then k / 3 % 3 else k % 3

/-- The absolute value of a difference of reals. -/
theorem absf_sub (x y : ℝ) : FloatOps.absf (F := Ideal) (φ := .f32) ((x : EReal) - (y : EReal)) = ((|x - y| : ℝ) : EReal) := by
  rw [Ideal.absf_def, ← EReal.coe_sub, ← EReal.coe_neg]
  exact (EReal.coe_strictMono.monotone.map_max (a := x - y) (b := -(x - y))).symm

/-- A pixel's distance to colour `k`. -/
theorem distance_eq (img : FVec Ideal S3x512x512 .f32) (pal : FVec Ideal S27x3x1x1 .f32)
    (hp : ∀ (k : Fin 27) (c : Fin 3), pal (ix4 k c (0 : Fin 1) (0 : Fin 1)) = ((level (digit k.val c) : ℝ) : EReal)) (r c : Fin 512) (x y z : ℝ)
    (hx : img (ix3 (0 : Fin 3) r c) = (x : EReal)) (hy : img (ix3 (1 : Fin 3) r c) = (y : EReal)) (hz : img (ix3 (2 : Fin 3) r c) = (z : EReal))
    (k : Fin 27) : distance img pal (ix3 k r c) = ((far x y z k.val : ℝ) : EReal) := by
  unfold distance
  pointwise []
  rw [Fin.sum_univ_three, hx, hy, hz, hp, hp, hp, absf_sub, absf_sub, absf_sub, ← EReal.coe_add, ← EReal.coe_add]
  rfl

/-- The infinite word. -/
theorem ofBits_top : Ideal.ofBits .f32 0x7F800000#32 = ⊤ := by simp [Ideal.ofBits, Ideal.ieee]

/-- What a reduction of pairs meets at a result index: the pairs at the indices that drop to it. -/
theorem mem_fiber {s t : Shape} {axes : List (Fin s.rank)} {A B : Type} (x : s.Idx → A) (y : s.Idx → B) (h : s.ReducesTo axes t) (j : t.Idx)
    (q : A × B) : q ∈ Host.argReduceFiber x y h j ↔ ∃ i : s.Idx, h.drop i = j ∧ (x i, y i) = q := by
  unfold Host.argReduceFiber
  simp only [List.mem_map, List.mem_filter, List.mem_finRange, true_and, decide_eq_true_eq]
  exact ⟨fun ⟨n, h1, h2⟩ => ⟨_, h1, h2⟩, fun ⟨i, h1, h2⟩ => ⟨s.rowMajor i, by rwa [Equiv.symm_apply_apply], by rwa [Equiv.symm_apply_apply]⟩⟩

/-- The indices of the distances that drop to a pixel's are its 27. -/
theorem drop_iff (i : S27x512x512.Idx) (r c : Fin 512) :
    reducesTo_S27x512x512_S512x512_d0.drop i = ix2 r c ↔ ∃ k : Fin 27, i = ix3 k r c := by
  have e1 := Shape.ReducesTo.drop_apply_val_of_eq reducesTo_S27x512x512_S512x512_d0 i 0 1
  have e2 := Shape.ReducesTo.drop_apply_val_of_eq reducesTo_S27x512x512_S512x512_d0 i 1 2
  constructor
  · intro hw
    refine ⟨i 0, funext fun a => Fin.ext ?_⟩
    match a with
    | ⟨0, _⟩ => rfl
    | ⟨1, _⟩ => rw [hw] at e1; exact e1.symm
    | ⟨2, _⟩ => rw [hw] at e2; exact e2.symm
  · rintro ⟨k, rfl⟩
    refine funext fun a => Fin.ext ?_
    match a with
    | ⟨0, _⟩ => exact e1
    | ⟨1, _⟩ => exact e2

/-- The reduction's pairs at a pixel: each colour's distance and number. -/
theorem mem_pixel (D : FVec Ideal S27x512x512 .f32) (r c : Fin 512) (q : EReal × BitVec 32) :
    q ∈ Host.argReduceFiber D (iotaInDim S27x512x512 32 0) reducesTo_S27x512x512_S512x512_d0 (ix2 r c)
      ↔ ∃ k : Fin 27, (D (ix3 k r c), BitVec.ofNat 32 k.val) = q := by
  rw [mem_fiber]
  constructor
  · rintro ⟨i, hi, rfl⟩
    obtain ⟨k, rfl⟩ := (drop_iff i r c).mp hi
    exact ⟨k, rfl⟩
  · rintro ⟨k, rfl⟩
    exact ⟨ix3 k r c, (drop_iff _ r c).mpr ⟨k, rfl⟩, rfl⟩

/-- The fold of pairs at a pixel whose distances are reals, colour `n` the first nearest. -/
theorem fold_best (D : FVec Ideal S27x512x512 .f32) (r c : Fin 512) (d : ℕ → ℝ) (hD : ∀ k : Fin 27, D (ix3 k r c) = ((d k.val : ℝ) : EReal))
    (n : ℕ) (hb : n < 27) (hbest : ∀ k < 27, d n < d k ∨ (d n = d k ∧ n ≤ k)) (L : List (EReal × BitVec 32))
    (hL : ∀ q, q ∈ L ↔ ∃ k : Fin 27, (D (ix3 k r c), BitVec.ofNat 32 k.val) = q) (w : BitVec 32) :
    L.foldl (reducer_argmin_f32_i32 (F := Ideal)) (⊤, w) = (((d n : ℝ) : EReal), BitVec.ofNat 32 n) := by
  have hint : ∀ k < 27, (BitVec.ofNat 32 k).toInt = (k : ℤ) := fun k hk => WordArith.toInt_ofNat_small k (by omega)
  refine foldl_best _ (((d n : ℝ) : EReal), BitVec.ofNat 32 n)
    (fun p => ((d n : ℝ) : EReal) < p.1 ∨ (((d n : ℝ) : EReal) = p.1 ∧ (n : ℤ) ≤ p.2.toInt)) ?_ ?_ ?_ L ?_ ?_ _ ?_
  · intro a ha
    rw [reducer_eq, if_neg]
    rintro (h | ⟨h, h'⟩)
    · rcases ha with ha | ⟨ha, -⟩
      · exact lt_asymm h ha
      · exact absurd (ha ▸ h) (lt_irrefl _)
    · rcases ha with ha | ⟨-, ha⟩
      · exact absurd (h ▸ ha) (lt_irrefl _)
      · rw [hint n hb] at h'; omega
  · intro q hq
    rw [reducer_eq]
    split
    · rfl
    · rename_i h
      rcases hq with hq | ⟨hq, hq'⟩
      · exact absurd (.inl hq) h
      · have e : q.2 = BitVec.ofNat 32 n := by
          refine BitVec.eq_of_toInt_eq ?_
          have : ¬ ((BitVec.ofNat 32 n).toInt < q.2.toInt) := fun h' => h (.inr ⟨hq, h'⟩)
          rw [hint n hb] at this ⊢
          omega
        exact Prod.ext hq.symm e
  · intro a q ha hq
    rw [reducer_eq]
    split
    · exact ha
    · exact hq
  · intro q hq
    obtain ⟨k, rfl⟩ := (hL q).mp hq
    rw [hD]
    rcases hbest k.val k.isLt with h | ⟨h, h'⟩
    · exact .inl (EReal.coe_lt_coe_iff.mpr h)
    · refine .inr ⟨congrArg _ h, ?_⟩
      rw [hint k.val k.isLt]
      exact Int.ofNat_le.mpr h'
  · refine (hL _).mpr ⟨⟨n, hb⟩, ?_⟩
    rw [hD]
  · exact .inl (EReal.coe_lt_top _)

/-- The numbers of a reduction of pairs are those of the fold over the pairs it meets. -/
theorem numbers_eq {s t u : Shape} {axes : List (Fin s.rank)} (f : EReal × BitVec 32 → EReal × BitVec 32 → EReal × BitVec 32) (x : FVec Ideal s .f32)
    (y : IVec s 32) (ix : FVec Ideal u .f32) (iy : IVec u 32) (h : s.ReducesTo axes t) (hu : 0 < u.numel) (j : t.Idx) :
    numbers (F := Ideal) f x y ix iy h hu j
      = ((Host.argReduceFiber x y h j).foldl f (ix (Shape.Idx.first hu), iy (Shape.Idx.first hu))).2 := by
  unfold numbers
  rw [Ideal.argReduce_eq_reduce2, Host.reduce2_eq_foldl_fiber]

/-- The first nearest colour of a pixel is its bin. -/
theorem nearest_eq (img : FVec Ideal S3x512x512 .f32) (pal : FVec Ideal S27x3x1x1 .f32)
    (hp : ∀ (k : Fin 27) (c : Fin 3), pal (ix4 k c (0 : Fin 1) (0 : Fin 1)) = ((level (digit k.val c) : ℝ) : EReal)) (r c : Fin 512) (x y z : ℝ)
    (hx : img (ix3 (0 : Fin 3) r c) = (x : EReal)) (hy : img (ix3 (1 : Fin 3) r c) = (y : EReal)) (hz : img (ix3 (2 : Fin 3) r c) = (z : EReal)) :
    nearest (distance img pal) (ix2 r c) = BitVec.ofNat 32 (bin (F := Ideal) (x : EReal) (y : EReal) (z : EReal)) := by
  have hD := distance_eq img pal hp r c x y z hx hy hz
  generalize distance img pal = D at hD ⊢
  unfold nearest
  rw [numbers_eq]
  have e : (constant (F := Ideal) S_ .f32 0x7F800000#32) (Shape.Idx.first h_S_) = ⊤ := ofBits_top
  rw [e, fold_best D r c (far x y z) hD _ (Hist.bin_lt (F := Ideal) _ _ _) (far_bin x y z) _ (mem_pixel D r c)]

/-! ## The counts -/

/-- Where the mask is one, a pixel's feature is its colour's number. -/
theorem feature_eq (n : IVec S512x512 32) (mask : FVec Ideal S1x512x512 .f32) (r c : Fin 512) (hm : mask (ix3 (0 : Fin 1) r c) = 1)
    (k : ℕ) (hk : k < 27) (hn : n (ix2 r c) = BitVec.ofNat 32 k) : feature n mask (ix2 r c) = ((k : ℕ) : EReal) := by
  unfold feature
  pointwise []
  rw [hm, hn]
  have e : (1 : EReal) - 1 = 0 := by rw [show (1 : EReal) = ((1 : ℝ) : EReal) by norm_cast, ← EReal.coe_sub, sub_self, EReal.coe_zero]
  have e' : FloatOps.sitofp (F := Ideal) .f32 (BitVec.ofNat 32 k) = ((k : ℕ) : EReal) := Rank.sitofp_ofNat k (by omega)
  rw [e, zero_mul, e', sub_zero]

/-- The counts of features that are numbers. -/
theorem counts_eq (f : FVec Ideal S512x512 .f32) (n : Fin 512 → Fin 512 → ℕ) (hf : ∀ r c, f (ix2 r c) = ((n r c : ℕ) : EReal)) (k : Fin 27) :
    counts f (ix1 k) = ((∑ r, ∑ c, if n r c = k.val then 1 else 0 : ℕ) : EReal) := by
  unfold counts
  pointwise []
  have e' : FloatOps.sitofp (F := Ideal) .f32 (BitVec.ofNat 32 k.val) = ((k.val : ℕ) : EReal) := Rank.sitofp_ofNat k.val (by omega)
  have e : ∀ p : Prop, [Decidable p] → FloatOps.uitofp (F := Ideal) .f32 (BitVec.ofBool (decide p)) = ((if p then 1 else 0 : ℕ) : EReal) := fun p _ => by
    refine Eq.trans (b := (((BitVec.ofBool (decide p)).toNat : ℝ) : EReal)) rfl ?_
    rw [EReal.coe_natCast]
    by_cases h : p <;> simp [h]
  rw [Nat.cast_sum]
  refine Finset.sum_congr rfl fun r _ => ?_
  rw [Nat.cast_sum]
  refine Finset.sum_congr rfl fun c _ => ?_
  rw [e, e', hf]
  simp only [Nat.cast_inj]

/-! ## The shares and their order -/

/-- The shares of counts that are numbers. -/
theorem shares_eq (f : FVec Ideal S27 .f32) (N : ℕ → ℕ) (hf : ∀ k : Fin 27, f (ix1 k) = ((N k.val : ℕ) : EReal)) (T : ℕ) (hT : ∑ k : Fin 27, N k.val = T)
    (h0 : T ≠ 0) (k : Fin 27) : shares f (ix1 k) = Rank.share N T k := by
  unfold shares
  pointwise []
  simp only [hf]
  rw [← Nat.cast_sum, hT, Rank.div_nat _ _ h0]
  rfl

/-- The comparator of the sort at the extended reals: the smaller value is before. -/
theorem comparator_eq (l r : EReal × BitVec 32) : comparator_f32_i32_d0 (F := Ideal) l r = BitVec.ofBool (decide (l.1 < r.1)) := by
  have hz : Ideal.ofBits .f32 0x00000000#32 = 0 := Ideal.ofBits_zero_f32
  have hs : ∀ x : EReal, Scalar.select (BitVec.ofBool (decide (x ≠ x))) (Ideal.ofBits .f32 0x7FC00000#32)
      (Scalar.select (BitVec.ofBool (decide (x = Ideal.ofBits .f32 0x00000000#32))) (Ideal.ofBits .f32 0x00000000#32) x) = x := fun x => by
    rw [hz]
    by_cases h : x = 0 <;> simp [Scalar.select, h]
  refine Eq.trans (b := BitVec.ofBool (decide (Scalar.select (BitVec.ofBool (decide (l.1 ≠ l.1))) (Ideal.ofBits .f32 0x7FC00000#32)
      (Scalar.select (BitVec.ofBool (decide (l.1 = Ideal.ofBits .f32 0x00000000#32))) (Ideal.ofBits .f32 0x00000000#32) l.1)
    < Scalar.select (BitVec.ofBool (decide (r.1 ≠ r.1))) (Ideal.ofBits .f32 0x7FC00000#32)
      (Scalar.select (BitVec.ofBool (decide (r.1 = Ideal.ofBits .f32 0x00000000#32))) (Ideal.ofBits .f32 0x00000000#32) r.1)))) rfl ?_
  simp only [hs]

/-- The sort's order of the shares. -/
theorem order_eq (s : FVec Ideal S27 .f32) (N : ℕ → ℕ) (T : ℕ) (hs : ∀ k : Fin 27, s (ix1 k) = Rank.share N T k) (i : Fin 27) :
    order s (ix1 i) = BitVec.ofNat 32 (Rank.sorted N T i).val := by
  have ha : ∀ k : Fin 27, (ix1 i : S27.Idx).along (0 : Fin 1) k = ix1 k := fun k => by
    funext a; obtain rfl : a = (0 : Fin 1) := Subsingleton.elim (α := Fin 1) _ _; exact Function.update_self ..
  have hc : (fun k k' : Fin 27 => comparator_f32_i32_d0 (F := Ideal)
        (Host.negf s ((ix1 i : S27.Idx).along (0 : Fin 1) k), iotaInDim S27 32 0 ((ix1 i : S27.Idx).along (0 : Fin 1) k))
        (Host.negf s ((ix1 i : S27.Idx).along (0 : Fin 1) k'), iotaInDim S27 32 0 ((ix1 i : S27.Idx).along (0 : Fin 1) k')) == 1#1)
      = fun k k' => decide (Rank.share N T k' < Rank.share N T k) := by
    funext k k'
    rw [comparator_eq, ha, ha]
    have e : ∀ k : Fin 27, Host.negf s (ix1 k) = -(Rank.share N T k) := fun k => by rw [← hs]; rfl
    rw [e, e]
    simp only [EReal.neg_lt_neg_iff]
    by_cases h : Rank.share N T k' < Rank.share N T k <;> simp [h]
  have e : order s (ix1 i) = iotaInDim S27 32 0 ((ix1 i : S27.Idx).along (0 : Fin 1) (sortedFrom (fun k k' : Fin 27 =>
      comparator_f32_i32_d0 (F := Ideal)
        (Host.negf s ((ix1 i : S27.Idx).along (0 : Fin 1) k), iotaInDim S27 32 0 ((ix1 i : S27.Idx).along (0 : Fin 1) k))
        (Host.negf s ((ix1 i : S27.Idx).along (0 : Fin 1) k'), iotaInDim S27 32 0 ((ix1 i : S27.Idx).along (0 : Fin 1) k')) == 1#1) i)) := by
    unfold order Host.sort2
    rw [dif_pos (by decide)]
    rfl
  rw [e, hc]
  exact (congrArg (iotaInDim S27 32 0) (ha (Rank.sorted N T i))).trans rfl

/-- The shares along an order of the bins. -/
theorem along_eq (s : FVec Ideal S27 .f32) (o : IVec S27 32) (i q : Fin 27) (ho : o (ix1 i) = BitVec.ofNat 32 q.val) :
    along s o (ix1 i) = s (ix1 q) := by
  unfold along
  refine Routing.gather_take1 gather_S27_S27x1_S27_n_0_n_n_0_1_1 rfl rfl rfl rfl s _ i q ?_ (by norm_num)
  have hz : ∀ k : Fin 27, Scalar.select (IntOp.cmpi .slt (BitVec.ofNat 32 k.val) 0#32) (IntOp.addi (BitVec.ofNat 32 k.val) 27#32) (BitVec.ofNat 32 k.val)
      = BitVec.ofNat 32 k.val := by decide
  refine Eq.trans (b := Scalar.select (IntOp.cmpi .slt (o (ix1 i)) 0#32) (IntOp.addi (o (ix1 i)) 27#32) (o (ix1 i))) ?_ (by rw [ho]; exact hz q)
  pointwise []

end Cert.Proof.Nearest

end
-- ==== Proof.Agree.lean ====
/-
  The reference's results at the extended reals, on pixels that are real, a mask of ones and the 27 colours: its shares are
  the bins' shares of the image's pixels, so its order and the shares in that order are the kernel's two results.
-/
module

public import proofs.«01_k».proof.Proof.Value
public import proofs.«01_k».proof.Proof.Nearest

@[expose] public section

set_option maxRecDepth 16384

noncomputable section

namespace Cert.Proof.Agree

open Cert.ReferenceIdeal Cert.ReferenceIdeal.Gen
open Idealize.ShloMosaic
open Cert.Proof.Hist (bin atImg bin_lt)
open Cert.Proof.Count (pix num sum_num sum_blocks)
open Cert.Proof.Rank (share sorted)
open Cert.Proof.Value (flat flat_eq)
open Cert.Proof.Nearest (level digit)

/-- A sum over the cells of a grid is the sum over their positions row by row. -/
theorem sum_grid (f : ℕ → ℕ) (m a : ℕ) : ∑ r : Fin a, ∑ c : Fin m, f (m * r.val + c.val) = ∑ p ∈ Finset.range (m * a), f p := by
  rw [← sum_blocks, Finset.sum_range (fun i => ∑ j ∈ Finset.range m, f (m * i + j))]
  exact Finset.sum_congr rfl fun r _ => (Finset.sum_range (fun j => f (m * r.val + j))).symm

/-- The pixels of a bin, counted row by row. -/
theorem num_grid (x : Vec Ideal Cert.KernelIdeal.S786432 .f32) (k : ℕ) :
    (∑ r : Fin 512, ∑ c : Fin 512, if pix x (512 * r.val + c.val) = k then 1 else 0) = num x k := by
  unfold num
  rw [show (262144 : ℕ) = 512 * 512 by norm_num]
  exact sum_grid (fun p => if pix x p = k then 1 else 0) 512 512

variable (img : FVec Ideal S3x512x512 .f32) (mask : FVec Ideal S1x512x512 .f32) (pal : FVec Ideal S27x3x1x1 .f32)
  (hi : ∀ j, ∃ v : ℝ, img j = (v : EReal)) (hm : ∀ j, mask j = 1)
  (hp : ∀ (k : Fin 27) (c : Fin 3), pal (ix4 k c (0 : Fin 1) (0 : Fin 1)) = ((level (digit k.val c) : ℝ) : EReal))

include hi hm hp

/-- A pixel's feature is its bin. -/
theorem feature_pix (r c : Fin 512) :
    Ref.feature (Ref.nearest (Ref.distance img pal)) mask (ix2 r c) = ((pix (flat img) (512 * r.val + c.val) : ℕ) : EReal) := by
  obtain ⟨x, hx⟩ := hi (ix3 (0 : Fin 3) r c)
  obtain ⟨y, hy⟩ := hi (ix3 (1 : Fin 3) r c)
  obtain ⟨z, hz⟩ := hi (ix3 (2 : Fin 3) r c)
  have e : pix (flat img) (512 * r.val + c.val) = bin (F := Ideal) (x : EReal) (y : EReal) (z : EReal) := by
    have h0 := flat_eq img 0 r c
    have h1 := flat_eq img 1 r c
    have h2 := flat_eq img 2 r c
    rw [show 262144 * (0 : Fin 3).val + (512 * r.val + c.val) = 512 * r.val + c.val by simp] at h0
    rw [show 262144 * (1 : Fin 3).val + (512 * r.val + c.val) = 262144 + (512 * r.val + c.val) by simp] at h1
    rw [show 262144 * (2 : Fin 3).val + (512 * r.val + c.val) = 524288 + (512 * r.val + c.val) by simp] at h2
    unfold pix
    rw [h0, h1, h2, ← hx, ← hy, ← hz]
  rw [e]
  exact Nearest.feature_eq _ mask r c (hm _) _ (bin_lt ..) (Nearest.nearest_eq img pal hp r c x y z hx hy hz)

/-- The reference's shares are the bins' shares. -/
theorem final_share (k : Fin 27) : Ref.final img mask pal (ix1 k) = share (num (flat img)) 262144 k := by
  unfold Ref.final
  refine Nearest.shares_eq _ (num (flat img)) (fun k => ?_) 262144 (sum_num _) (by norm_num) k
  refine (Nearest.counts_eq _ (fun r c => pix (flat img) (512 * r.val + c.val)) (feature_pix img mask pal hi hm hp) k).trans ?_
  exact congrArg (fun n : ℕ => (n : EReal)) (num_grid (flat img) k.val)

/-- The reference's first result: the bins in order of falling share. -/
theorem first_result : Ref.order (Ref.final img mask pal) = fun i => BitVec.ofNat 32 (sorted (num (flat img)) 262144 (i 0)).val := by
  funext i
  obtain ⟨k, rfl⟩ : ∃ k : Fin 27, i = ix1 k := ⟨i 0, by funext a; obtain rfl : a = (0 : Fin 1) := Subsingleton.elim (α := Fin 1) _ _; rfl⟩
  exact Nearest.order_eq _ _ _ (final_share img mask pal hi hm hp) k

/-- The reference's second result: their shares. -/
theorem second_result : Ref.along (Ref.final img mask pal) (Ref.order (Ref.final img mask pal))
    = fun i => share (num (flat img)) 262144 (sorted (num (flat img)) 262144 (i 0)) := by
  funext i
  obtain ⟨k, rfl⟩ : ∃ k : Fin 27, i = ix1 k := ⟨i 0, by funext a; obtain rfl : a = (0 : Fin 1) := Subsingleton.elim (α := Fin 1) _ _; rfl⟩
  exact (Nearest.along_eq _ _ k _ (Nearest.order_eq _ _ _ (final_share img mask pal hi hm hp) k)).trans (final_share img mask pal hi hm hp _)

end Cert.Proof.Agree

end
-- ==== Proof.Pre.lean ====
/-
  What the precondition says of the arguments: every pixel is a real number, every mask value is one, and channel `c` of
  colour `k` is the level its base-three digit names.
-/
module

public import proofs.«01_k».proof.Pre_codebook_inputs
public import proofs.«01_k».proof.Proof.Nearest

@[expose] public section

set_option maxRecDepth 16384

noncomputable section

namespace Cert.Proof.Pre

open Cert.Pre_codebook_inputs
open Idealize.ShloMosaic
open Cert.Proof.Nearest (level digit)

/-- The shape relations the precondition's operations take. -/
instance facts : Cert.Pre_codebook_inputs.Facts := ⟨by decide, by decide, by decide⟩

variable (img : FVec Ideal S3x512x512 .f32) (mask : FVec Ideal S1x512x512 .f32) (pal : FVec Ideal S27x3x1x1 .f32)

/-- Every pixel is a real. -/
theorem pixels_real (h : (fn (F := Ideal) img mask pal).1 = fun _ => 1#1) (j : S3x512x512.Idx) : ∃ v : ℝ, img j = (v : EReal) := by
  have e : BitVec.ofBool (decide (max (img j) (-(img j)) < Ideal.ofBits .f32 0x7F800000#32)) = 1#1 := congrFun h j
  rw [Nearest.ofBits_top] at e
  generalize img j = x at e ⊢
  induction x using EReal.rec with
  | bot => simp at e
  | top => simp at e
  | coe v => exact ⟨v, rfl⟩

/-- The bits of one. -/
theorem ofBits_one : Ideal.ofBits .f32 0x3F800000#32 = 1 := by
  rw [show (1 : EReal) = ((1 : ℝ) : EReal) by norm_cast]
  simp [Ideal.ofBits, Ideal.ieee, -EReal.coe_mul]; norm_num

/-- Every mask value is one. -/
theorem mask_one (h : (fn (F := Ideal) img mask pal).2.1 = fun _ => 1#1) (j : S1x512x512.Idx) : mask j = 1 := by
  have e : BitVec.ofBool (decide (mask j = Ideal.ofBits .f32 0x3F800000#32)) = 1#1 := congrFun h j
  rw [ofBits_one] at e
  by_contra hx
  simp [hx] at e

/-- The level a colour's channel is compared with, by its number. -/
def pick (w : BitVec 32) : EReal :=
  Scalar.select (IntOp.cmpi .eq w 0#32) (Ideal.ofBits .f32 0x00000000#32)
    (Scalar.select (IntOp.cmpi .eq w 1#32) (Ideal.ofBits .f32 0x42FE0000#32) (Ideal.ofBits .f32 0x437F0000#32))

/-- The three levels picked. -/
theorem pick_eq (n : ℕ) (hn : n < 3) : pick (BitVec.ofNat 32 n) = ((level n : ℝ) : EReal) := by
  have h1 : Ideal.ofBits .f32 0x42FE0000#32 = ((127 : ℝ) : EReal) := by
    simp [Ideal.ofBits, Ideal.ieee, -EReal.coe_mul]; norm_num
  have h2 : Ideal.ofBits .f32 0x437F0000#32 = ((255 : ℝ) : EReal) := by
    simp [Ideal.ofBits, Ideal.ieee, -EReal.coe_mul]; norm_num
  have h0 : Ideal.ofBits .f32 0x00000000#32 = ((0 : ℝ) : EReal) := Ideal.ofBits_zero_f32
  unfold pick
  rw [h0, h1, h2]
  interval_cases n <;> simp [level, Scalar.select, IntOp.cmpi]

/-- A word's sign. -/
def signWord (x : BitVec 32) : BitVec 32 := if x = 0 then 0 else if x.msb then -1 else 1

/-- The quotient rounded down of one word by another. -/
def floorDiv (x y : BitVec 32) : BitVec 32 :=
  Scalar.select (IntOp.andi (IntOp.cmpi .ne (signWord x) (signWord y)) (IntOp.cmpi .ne (IntOp.remsi .host x y) 0#32))
    (IntOp.subi (IntOp.divsi .host x y) 1#32) (IntOp.divsi .host x y)

/-- The number of a colour's level in a channel. -/
def levelWord (k c : BitVec 32) : BitVec 32 :=
  Scalar.select (IntOp.cmpi .eq c 0#32) (floorDiv k 9#32)
    (Scalar.select (IntOp.cmpi .eq c 1#32) (IntOp.subi (floorDiv k 3#32) (IntOp.muli 3#32 (floorDiv k 9#32)))
      (IntOp.subi (IntOp.subi k (IntOp.muli 9#32 (floorDiv k 9#32)))
        (IntOp.muli 3#32 (IntOp.subi (floorDiv k 3#32) (IntOp.muli 3#32 (floorDiv k 9#32))))))

/-- The number is the colour's base-three digit. -/
theorem levelWord_eq : ∀ (k : Fin 27) (c : Fin 3), levelWord (BitVec.ofNat 32 k.val) (BitVec.ofNat 32 c.val) = BitVec.ofNat 32 (digit k.val c) := by
  decide

/-- A digit is below three. -/
theorem digit_lt (k : Fin 27) (c : Fin 3) : digit k.val c < 3 := by
  unfold digit; split <;> [omega; (split <;> omega)]

/-- Channel `c` of colour `k` is the level its digit names. -/
theorem colours (h : (fn (F := Ideal) img mask pal).2.2 = fun _ => 1#1) (k : Fin 27) (c : Fin 3) :
    pal (ix4 k c (0 : Fin 1) (0 : Fin 1)) = ((level (digit k.val c) : ℝ) : EReal) := by
  have e : BitVec.ofBool (decide (pal (ix4 k c (0 : Fin 1) (0 : Fin 1)) = pick (levelWord (BitVec.ofNat 32 k.val) (BitVec.ofNat 32 c.val)))) = 1#1 :=
    congrFun h (ix4 k c (0 : Fin 1) (0 : Fin 1))
  rw [levelWord_eq, pick_eq _ (digit_lt k c)] at e
  by_contra hx
  simp [hx] at e

end Cert.Proof.Pre

end
-- ==== Proof.lean ====
/- The certificate's claim, put together: the two kernel programs' frames (Proof/Frames.lean), the reference's
   (Proof/Ref.lean), and the two programs' equal results: the kernel's as Proof/Value.lean reads them, the reference's as
   Proof/Agree.lean does, under what Proof/Pre.lean reads of the precondition. -/
module

public import proofs.«01_k».proof.Defs
public import proofs.«01_k».proof.Proof.Frames
public import proofs.«01_k».proof.Proof.Agree
public import proofs.«01_k».proof.Proof.Pre
public import Idealize.ShloMosaic.Adequacy
public import Idealize.ShloMosaic.Init

@[expose] public section

noncomputable section

namespace Cert.Proof

open Idealize.ShloMosaic Idealize.SL.Sem

/-- The reference's run with its arguments' ends read: unchanged; it has no semaphore. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => ⟨(h c Cert.ReferenceIdeal.main_arg0).trans (Ref.arg0_eq _), (h c Cert.ReferenceIdeal.main_arg1).trans (Ref.arg1_eq _),
      (h c Cert.ReferenceIdeal.main_arg2).trans (Ref.arg2_eq _)⟩, sem_eq_zero_of_no_sems (by decide) r.2⟩)
    (Ref.run_main (F := Ideal) m g)

/-- On arguments the precondition holds of, the reference's two results are what the kernel's run leaves. -/
theorem results_meet (m : (ℓ : Loc Cert.KernelIdeal.nD Cert.KernelIdeal.τ Cert.KernelIdeal.sig) → Buf (Elt Ideal) ℓ) (c : Dev Cert.KernelIdeal.nD)
    (img : FVec Ideal Cert.ReferenceIdeal.S3x512x512 .f32) (mask : FVec Ideal Cert.ReferenceIdeal.S1x512x512 .f32)
    (pal : FVec Ideal Cert.ReferenceIdeal.S27x3x1x1 .f32) (himg : img = m (c, SC.b0))
    (h0 : (Cert.Pre_codebook_inputs.fn (F := Ideal) img mask pal).1 = fun _ => 1#1)
    (h1 : (Cert.Pre_codebook_inputs.fn (F := Ideal) img mask pal).2.1 = fun _ => 1#1)
    (h2 : (Cert.Pre_codebook_inputs.fn (F := Ideal) img mask pal).2.2 = fun _ => 1#1) :
    Ref.order (Ref.final img mask pal) = SC.V9 m c SC.w6
      ∧ Ref.along (Ref.final img mask pal) (Ref.order (Ref.final img mask pal)) = SC.V9 m c SC.w8 := by
  rw [Value.V9_w6, Value.V9_w8, ← himg]
  exact ⟨Agree.first_result _ _ _ (Pre.pixels_real _ _ _ h0) (Pre.mask_one _ _ _ h1) (Pre.colours _ _ _ h2),
    Agree.second_result _ _ _ (Pre.pixels_real _ _ _ h0) (Pre.mask_one _ _ _ h1) (Pre.colours _ _ _ h2)⟩

/-- The two idealized programs' results are equal: the bins in order of falling share, and their shares. -/
theorem results_equal : Cert.algebraic_KernelIdeal_ReferenceIdeal_pre_codebook_inputs := fun m g m' g' hpre hargs => by
  have hr := fun c : Dev Cert.KernelIdeal.nD => by
    obtain ⟨p0, p1, p2⟩ := hpre c
    obtain ⟨a0, a1, a2⟩ := hargs c
    rw [← a0, ← a1, ← a2] at p0 p1 p2
    exact results_meet m c _ _ _ a0 p0 p1 p2
  refine ⟨fun c => SC.V9 m c SC.w6, fun c => SC.V9 m c SC.w8, ?_, ?_⟩
  · exact (θ_run (Cert.KernelIdeal.defs (F := Ideal)) _ _).mono
      (fun _ h c => ⟨h.1 c SC.w6 (by decide), h.1 c SC.w8 (by decide), (h.1 c SC.b0 (by decide)).trans (SC.V9_b0 m c),
        (h.1 c SC.b1 (by decide)).trans (SC.V9_b1 m c), (h.1 c SC.b2 (by decide)).trans (SC.V9_b2 m c)⟩)
      (SC.run_main m g)
  · exact (θ_run Cert.ReferenceIdeal.defs _ _).mono
      (fun _ h c => ⟨((h c Cert.ReferenceIdeal.main_v26).trans (Ref.order_eq _)).trans (hr c).1,
        ((h c Cert.ReferenceIdeal.main_v33).trans (Ref.vals_eq _)).trans (hr c).2,
        (h c Cert.ReferenceIdeal.main_arg0).trans (Ref.arg0_eq _), (h c Cert.ReferenceIdeal.main_arg1).trans (Ref.arg1_eq _),
        (h c Cert.ReferenceIdeal.main_arg2).trans (Ref.arg2_eq _)⟩)
      (Ref.run_main (F := Ideal) m' g')

/-- The certificate's claim. -/
theorem claim : Cert.Claim := ⟨Cert.Kernel.Gen.facts, Cert.KernelIdeal.Gen.facts, Cert.ReferenceIdeal.Gen.facts, Pre.facts,
  frame_device, frame_ideal, fun m g _ => frame_ideal m g True.intro, fun m g _ => run_reference m g, fun m g _ => run_reference m g,
  True.intro, results_equal⟩

end Cert.Proof

end
